-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v19_1)) (v1 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_1) = v0 c
          ∧ r.2.mem ((c.tc : Thread Cert.Kernel4Ideal.nD Cert.Kernel4Ideal.τ).loc Cert.Kernel4Ideal.main_v21) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v20)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v20) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v83) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
-- ==== Kernel.lean ====
abbrev S32x32x8192 : Shape := ⟨3, ![32, 32, 8192]⟩
abbrev S32x32x16 : Shape := ⟨3, ![32, 32, 16]⟩
abbrev S32x8x256x256 : Shape := ⟨4, ![32, 8, 256, 256]⟩
abbrev S32x8x256 : Shape := ⟨3, ![32, 8, 256]⟩
abbrev S32x8 : Shape := ⟨2, ![32, 8]⟩
abbrev S1024x8192 : Shape := ⟨2, ![1024, 8192]⟩
abbrev S1024x16 : Shape := ⟨2, ![1024, 16]⟩
abbrev S_ : Shape := ⟨0, ![]⟩
abbrev S1024x128 : Shape := ⟨2, ![1024, 128]⟩
abbrev S32x16x32 : Shape := ⟨3, ![32, 16, 32]⟩
abbrev S32x8x1x256 : Shape := ⟨4, ![32, 8, 1, 256]⟩
abbrev S32x8x1x1 : Shape := ⟨4, ![32, 8, 1, 1]⟩
abbrev S1024x2048 : Shape := ⟨2, ![1024, 2048]⟩
abbrev S32x2048 : Shape := ⟨2, ![32, 2048]⟩
abbrev S32x128 : Shape := ⟨2, ![32, 128]⟩
abbrev S1x16x32 : Shape := ⟨3, ![1, 16, 32]⟩
abbrev S1x8x256x256 : Shape := ⟨4, ![1, 8, 256, 256]⟩
abbrev S1x8x1x256 : Shape := ⟨4, ![1, 8, 1, 256]⟩
abbrev S1x8x1x1 : Shape := ⟨4, ![1, 8, 1, 1]⟩
abbrev S8x256x256 : Shape := ⟨3, ![8, 256, 256]⟩
abbrev S8x1x256 : Shape := ⟨3, ![8, 1, 256]⟩
abbrev S8x1x1 : Shape := ⟨3, ![8, 1, 1]⟩
abbrev S32x32 : Shape := ⟨2, ![32, 32]⟩
abbrev S16x32 : Shape := ⟨2, ![16, 32]⟩
abbrev S32x256 : Shape := ⟨2, ![32, 256]⟩
abbrev S32x1 : Shape := ⟨2, ![32, 1]⟩
abbrev S1x32 : Shape := ⟨2, ![1, 32]⟩
abbrev S32 : Shape := ⟨1, ![32]⟩
abbrev S1x1x1 : Shape := ⟨3, ![1, 1, 1]⟩
abbrev S1x1 : Shape := ⟨2, ![1, 1]⟩
abbrev S1x1x256 : Shape := ⟨3, ![1, 1, 256]⟩
abbrev S1x256 : Shape := ⟨2, ![1, 256]⟩
abbrev S1x256x256 : Shape := ⟨3, ![1, 256, 256]⟩
abbrev S256x256 : Shape := ⟨2, ![256, 256]⟩
abbrev S256 : Shape := ⟨1, ![256]⟩

abbrev nBuf : Space → Nat
  | .hbm => 20
  | .vmem => 29
  | .smem => 0
  | _ => 0

abbrev bufTy : (tb : Table) → Fin (tcTables nBuf tb) → BufTy
  | .hbm, ⟨0, _⟩ => ⟨S32x32x8192, .f32⟩
  | .hbm, ⟨1, _⟩ => ⟨S32x32x16, .f32⟩
  | .hbm, ⟨2, _⟩ => ⟨S32x8x256x256, .f32⟩
  | .hbm, ⟨3, _⟩ => ⟨S32x8x256, .f32⟩
  | .hbm, ⟨4, _⟩ => ⟨S32x8, .f32⟩
  | .hbm, ⟨5, _⟩ => ⟨S1024x8192, .f32⟩
  | .hbm, ⟨6, _⟩ => ⟨S1024x8192, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x16, .f32⟩
  | .hbm, ⟨12, _⟩ => ⟨S32x32x16, .f32⟩
  | .hbm, ⟨13, _⟩ => ⟨S32x16x32, .f32⟩
  | .hbm, ⟨14, _⟩ => ⟨S32x8x1x256, .f32⟩
  | .hbm, ⟨15, _⟩ => ⟨S32x8x1x1, .f32⟩
  | .hbm, ⟨16, _⟩ => ⟨S1024x2048, .bf16⟩
  | .hbm, ⟨17, _⟩ => ⟨S32x8x256x256, .f32⟩
  | .hbm, ⟨18, _⟩ => ⟨S32x8x1x256, .f32⟩
  | .hbm, ⟨19, _⟩ => ⟨S32x8x1x1, .f32⟩
  | .local _ .vmem, ⟨0, _⟩ => ⟨S32x2048, .bf16⟩
  | .local _ .vmem, ⟨1, _⟩ => ⟨S32x2048, .bf16⟩
  | .local _ .vmem, ⟨2, _⟩ => ⟨S32x2048, .bf16⟩
  | .local _ .vmem, ⟨3, _⟩ => ⟨S32x2048, .bf16⟩
  | .local _ .vmem, ⟨4, _⟩ => ⟨S32x2048, .bf16⟩
  | .local _ .vmem, ⟨5, _⟩ => ⟨S32x2048, .bf16⟩
  | .local _ .vmem, ⟨6, _⟩ => ⟨S32x2048, .bf16⟩
  | .local _ .vmem, ⟨7, _⟩ => ⟨S32x2048, .bf16⟩
  | .local _ .vmem, ⟨8, _⟩ => ⟨S32x128, .f32⟩
  | .local _ .vmem, ⟨9, _⟩ => ⟨S32x128, .f32⟩
  | .local _ .vmem, ⟨10, _⟩ => ⟨S1x16x32, .f32⟩
  | .local _ .vmem, ⟨11, _⟩ => ⟨S1x16x32, .f32⟩
  | .local _ .vmem, ⟨12, _⟩ => ⟨S1x8x256x256, .f32⟩
  | .local _ .vmem, ⟨13, _⟩ => ⟨S1x8x256x256, .f32⟩
  | .local _ .vmem, ⟨14, _⟩ => ⟨S1x8x1x256, .f32⟩
  | .local _ .vmem, ⟨15, _⟩ => ⟨S1x8x1x256, .f32⟩
  | .local _ .vmem, ⟨16, _⟩ => ⟨S1x8x1x1, .f32⟩
  | .local _ .vmem, ⟨17, _⟩ => ⟨S1x8x1x1, .f32⟩
  | .local _ .vmem, ⟨18, _⟩ => ⟨S32x2048, .bf16⟩
  | .local _ .vmem, ⟨19, _⟩ => ⟨S32x2048, .bf16⟩
  | .local _ .vmem, ⟨20, _⟩ => ⟨S1x8x256x256, .f32⟩
  | .local _ .vmem, ⟨21, _⟩ => ⟨S1x8x256x256, .f32⟩
  | .local _ .vmem, ⟨22, _⟩ => ⟨S1x8x1x256, .f32⟩
  | .local _ .vmem, ⟨23, _⟩ => ⟨S1x8x1x256, .f32⟩
  | .local _ .vmem, ⟨24, _⟩ => ⟨S1x8x1x1, .f32⟩
  | .local _ .vmem, ⟨25, _⟩ => ⟨S1x8x1x1, .f32⟩
  | .local _ .vmem, ⟨26, _⟩ => ⟨S8x256x256, .f32⟩
  | .local _ .vmem, ⟨27, _⟩ => ⟨S8x1x256, .f32⟩
  | .local _ .vmem, ⟨28, _⟩ => ⟨S8x1x1, .f32⟩
  | _, _ => ⟨S32x32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9_0 : Ref sig .tc := ⟨.hbm, 16, rfl⟩
abbrev main_v9_1 : Ref sig .tc := ⟨.hbm, 17, rfl⟩
abbrev main_v9_2 : Ref sig .tc := ⟨.hbm, 18, rfl⟩
abbrev main_v9_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![32, 1], ![false, false]⟩

def k0_cond2 (i : grid0.Coords) : BitVec 1 :=
  let arg1 : BitVec 32 := BitVec.ofNat 32 (i 1).val
  let c0_i32_398 : BitVec 32 := 0#32
  let v1226 : BitVec 1 := Scalar.cmpi .eq arg1 c0_i32_398
  let v1227 : BitVec 32 := Scalar.extui v1226
  let c0_i32_399 : BitVec 32 := 0#32
  let v1228 : BitVec 1 := Scalar.cmpi .ne v1227 c0_i32_399
  v1228

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S32x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S32x32x8192 : Shape := ⟨3, ![32, 32, 8192]⟩
abbrev S32x32x16 : Shape := ⟨3, ![32, 32, 16]⟩
abbrev S32x8x256x256 : Shape := ⟨4, ![32, 8, 256, 256]⟩
abbrev S32x8x256 : Shape := ⟨3, ![32, 8, 256]⟩
abbrev S32x8 : Shape := ⟨2, ![32, 8]⟩
abbrev S32x32x2048 : Shape := ⟨3, ![32, 32, 2048]⟩
abbrev S32x32x8 : Shape := ⟨3, ![32, 32, 8]⟩
abbrev S32x32x8x256 : Shape := ⟨4, ![32, 32, 8, 256]⟩
abbrev S_ : Shape := ⟨0, ![]⟩
abbrev S32x8x32x256 : Shape := ⟨4, ![32, 8, 32, 256]⟩
abbrev S32x8x32 : Shape := ⟨3, ![32, 8, 32]⟩
abbrev S32x32 : Shape := ⟨2, ![32, 32]⟩
abbrev S32x8x32x1 : Shape := ⟨4, ![32, 8, 32, 1]⟩
abbrev S32x8x1x32 : Shape := ⟨4, ![32, 8, 1, 32]⟩
abbrev S32x8x32x32 : Shape := ⟨4, ![32, 8, 32, 32]⟩
abbrev S32x8x1 : Shape := ⟨3, ![32, 8, 1]⟩
abbrev S32x8x1x1 : Shape := ⟨4, ![32, 8, 1, 1]⟩
abbrev S1024x2048 : Shape := ⟨2, ![1024, 2048]⟩
abbrev S32x8x1x256 : Shape := ⟨4, ![32, 8, 1, 256]⟩

abbrev nBuf : Space → Nat
  | .hbm => 139
  | .vmem => 0
  | .smem => 0
  | _ => 0

abbrev hbmTy0_0 (i : Nat) : BufTy := match i % 128 with
  | 0 => ⟨S32x32x8192, .f32⟩
  | 1 => ⟨S32x32x16, .f32⟩
  | 2 => ⟨S32x8x256x256, .f32⟩
  | 3 => ⟨S32x8x256, .f32⟩
  | 4 => ⟨S32x8, .f32⟩
  | 5 => ⟨S32x32x2048, .f32⟩
  | 6 => ⟨S32x32x2048, .f32⟩
  | 7 => ⟨S32x32x2048, .f32⟩
  | 8 => ⟨S32x32x2048, .f32⟩
  | 9 => ⟨S32x32x8, .f32⟩
  | 10 => ⟨S32x32x8, .f32⟩
  | 11 => ⟨S32x32x8x256, .f32⟩
  | 12 => ⟨S32x32x8x256, .f32⟩
  | 13 => ⟨S_, .f32⟩
  | 14 => ⟨S32x32x8x256, .f32⟩
  | 15 => ⟨S32x32x8x256, .f32⟩
  | 16 => ⟨S32x32x8x256, .f32⟩
  | 17 => ⟨S32x32x8, .f32⟩
  | 18 => ⟨S_, .f32⟩
  | 19 => ⟨S32x32x8, .f32⟩
  | 20 => ⟨S32x32x8, .f32⟩
  | 21 => ⟨S32x32x8, .f32⟩
  | 22 => ⟨S32x32x8, .f32⟩
  | 23 => ⟨S32x32x8, .i1⟩
  | 24 => ⟨S32x32x8, .f32⟩
  | 25 => ⟨S32x32x8, .f32⟩
  | 26 => ⟨S32x32x8, .f32⟩
  | 27 => ⟨S32x32x8, .f32⟩
  | 28 => ⟨S32x32x8, .f32⟩
  | 29 => ⟨S32x32x8, .f32⟩
  | 30 => ⟨S32x32x8, .f32⟩
  | 31 => ⟨S32x32x8, .f32⟩
  | 32 => ⟨S32x32x8, .f32⟩
  | 33 => ⟨S32x8x32x256, .f32⟩
  | 34 => ⟨S32x8x32x256, .f32⟩
  | 35 => ⟨S32x8x32x256, .f32⟩
  | 36 => ⟨S32x8x32, .f32⟩
  | 37 => ⟨S32x8x32, .f32⟩
  | 38 => ⟨S_, .f32⟩
  | 39 => ⟨S_, .f32⟩
  | 40 => ⟨S32x8x32, .f32⟩
  | 41 => ⟨S_, .i1⟩
  | 42 => ⟨S32x32, .i1⟩
  | 43 => ⟨S32x32, .i32⟩
  | 44 => ⟨S_, .i32⟩
  | 45 => ⟨S32x32, .i32⟩
  | 46 => ⟨S32x32, .i32⟩
  | 47 => ⟨S32x32, .i32⟩
  | 48 => ⟨S32x32, .i1⟩
  | 49 => ⟨S_, .i1⟩
  | 50 => ⟨S32x32, .i1⟩
  | 51 => ⟨S32x32, .i1⟩
  | 52 => ⟨S32x8x32x1, .f32⟩
  | 53 => ⟨S32x8x1x32, .f32⟩
  | 54 => ⟨S32x8x32x32, .f32⟩
  | 55 => ⟨S32x8x32x32, .f32⟩
  | 56 => ⟨S32x8x32x32, .f32⟩
  | 57 => ⟨S32x8x1x32, .f32⟩
  | 58 => ⟨S32x8x32x32, .f32⟩
  | 59 => ⟨S32x8x32x32, .f32⟩
  | 60 => ⟨S_, .f32⟩
  | 61 => ⟨S_, .f32⟩
  | 62 => ⟨S32x8x32x32, .i1⟩
  | 63 => ⟨S32x8x32x32, .f32⟩
  | 64 => ⟨S32x8x32x32, .f32⟩
  | 65 => ⟨S32x8x1, .f32⟩
  | 66 => ⟨S32x8x32, .f32⟩
  | 67 => ⟨S32x8x32, .f32⟩
  | 68 => ⟨S_, .f32⟩
  | 69 => ⟨S32x8x32, .f32⟩
  | 70 => ⟨S32x8x32, .f32⟩
  | 71 => ⟨S32x8x32, .f32⟩
  | 72 => ⟨S32x8x32, .f32⟩
  | 73 => ⟨S32x8x32x1, .f32⟩
  | 74 => ⟨S32x8x32x32, .f32⟩
  | 75 => ⟨S32x8x32x32, .f32⟩
  | 76 => ⟨S32x8x32x32, .f32⟩
  | 77 => ⟨S32x8x32x32, .f32⟩
  | 78 => ⟨S32x8x32x32, .f32⟩
  | 79 => ⟨S32x8x32x1, .f32⟩
  | 80 => ⟨S32x8x32x256, .f32⟩
  | 81 => ⟨S32x8x32x256, .f32⟩
  | 82 => ⟨S32x8x32x256, .f32⟩
  | 83 => ⟨S32x8x32x256, .f32⟩
  | 84 => ⟨S32x8x32x256, .f32⟩
  | 85 => ⟨S32x8x32, .f32⟩
  | 86 => ⟨S32x8x32, .f32⟩
  | 87 => ⟨S_, .f32⟩
  | 88 => ⟨S32x8x32, .f32⟩
  | 89 => ⟨S32x8x32, .f32⟩
  | 90 => ⟨S32x8x32, .f32⟩
  | 91 => ⟨S32x8x32, .f32⟩
  | 92 => ⟨S32x8x32, .f32⟩
  | 93 => ⟨S32x8x32, .f32⟩
  | 94 => ⟨S32x8x32x1, .f32⟩
  | 95 => ⟨S32x8x32x256, .f32⟩
  | 96 => ⟨S32x8x32x256, .f32⟩
  | 97 => ⟨S32x8x1, .f32⟩
  | 98 => ⟨S32x8, .f32⟩
  | 99 => ⟨S32x8x1, .f32⟩
  | 100 => ⟨S32x8x32, .f32⟩
  | 101 => ⟨S32x8x32, .f32⟩
  | 102 => ⟨S32x8x32, .f32⟩
  | 103 => ⟨S32x8x1, .f32⟩
  | 104 => ⟨S32x8x32, .f32⟩
  | 105 => ⟨S32x8x32, .f32⟩
  | 106 => ⟨S32x8x32, .f32⟩
  | 107 => ⟨S32x8x1, .f32⟩
  | 108 => ⟨S32x8, .f32⟩
  | 109 => ⟨S32x8, .f32⟩
  | 110 => ⟨S32x8, .f32⟩
  | 111 => ⟨S32x8x1x1, .f32⟩
  | 112 => ⟨S32x8x256x256, .f32⟩
  | 113 => ⟨S32x8x256x256, .f32⟩
  | 114 => ⟨S32x8x32x1, .f32⟩
  | 115 => ⟨S32x8x32x256, .f32⟩
  | 116 => ⟨S32x8x32x256, .f32⟩
  | 117 => ⟨S32x8x256x256, .f32⟩
  | 118 => ⟨S32x8x256x256, .f32⟩
  | 119 => ⟨S32x8x1, .f32⟩
  | 120 => ⟨S32x8x256, .f32⟩
  | 121 => ⟨S32x8x256, .f32⟩
  | 122 => ⟨S32x8x256, .f32⟩
  | 123 => ⟨S32x8x256, .f32⟩
  | 124 => ⟨S32x32x8x256, .f32⟩
  | 125 => ⟨S32x32x2048, .f32⟩
  | 126 => ⟨S32x32x2048, .f32⟩
  | 127 => ⟨S32x32x2048, .f32⟩
  | _ => ⟨S32x32x8192, .f32⟩

abbrev hbmTy0_1 (i : Nat) : BufTy := match i % 128 with
  | 0 => ⟨S_, .f32⟩
  | 1 => ⟨S32x32x2048, .f32⟩
  | 2 => ⟨S32x32x2048, .f32⟩
  | 3 => ⟨S_, .f32⟩
  | 4 => ⟨S32x32x2048, .f32⟩
  | 5 => ⟨S32x32x2048, .f32⟩
  | 6 => ⟨S32x32x2048, .f32⟩
  | 7 => ⟨S32x32x2048, .bf16⟩
  | 8 => ⟨S1024x2048, .bf16⟩
  | 9 => ⟨S32x8x1x256, .f32⟩
  | 10 => ⟨S32x8x1x1, .f32⟩
  | _ => ⟨S32x32x8192, .f32⟩

abbrev hbmTy (i : Nat) : BufTy := match i / 128 with
  | 0 => hbmTy0_0 i
  | 1 => hbmTy0_1 i
  | _ => ⟨S32x32x8192, .f32⟩

abbrev bufTy : (tb : Table) → Fin (tcTables nBuf tb) → BufTy
  | .hbm, ⟨i, _⟩ => hbmTy i
  | _, _ => ⟨S32x32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_call1_call0_cst : Ref sig .tc := ⟨.hbm, 38, rfl⟩
abbrev main_call1_call0_v0 : Ref sig .tc := ⟨.hbm, 39, rfl⟩
abbrev main_v17 : Ref sig .tc := ⟨.hbm, 40, rfl⟩
abbrev main_c : Ref sig .tc := ⟨.hbm, 41, rfl⟩
abbrev main_v18 : Ref sig .tc := ⟨.hbm, 42, rfl⟩
abbrev main_call2_v0 : Ref sig .tc := ⟨.hbm, 43, rfl⟩
abbrev main_call2_c : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_c_0 : Ref sig .tc := ⟨.hbm, 49, rfl⟩
abbrev main_call2_v5 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_0 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_1 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_cst_2 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_3 : Ref sig .tc := ⟨.hbm, 128, rfl⟩
abbrev main_v90 : Ref sig .tc := ⟨.hbm, 129, rfl⟩
abbrev main_v91 : Ref sig .tc := ⟨.hbm, 130, rfl⟩
abbrev main_cst_4 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩

abbrev nD : Nat := 1
abbrev τ : Topo := Topo.v7x

variable {F : FTy → Type} [FloatOps F]
-- ==== Kernel2.lean ====
abbrev S8x4096x2048 : Shape := ⟨3, ![8, 4096, 2048]⟩
abbrev S2048 : Shape := ⟨1, ![2048]⟩
abbrev S2048x14352 : Shape := ⟨2, ![2048, 14352]⟩
abbrev S14352 : Shape := ⟨1, ![14352]⟩
abbrev S32768x2048 : Shape := ⟨2, ![32768, 2048]⟩
abbrev S2048x8192 : Shape := ⟨2, ![2048, 8192]⟩
abbrev S1x2048 : Shape := ⟨2, ![1, 2048]⟩
abbrev S8192 : Shape := ⟨1, ![8192]⟩
abbrev S1x8192 : Shape := ⟨2, ![1, 8192]⟩
abbrev S32768x8192 : Shape := ⟨2, ![32768, 8192]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x14352, .f32⟩
  | .hbm, ⟨3, _⟩ => ⟨S14352, .f32⟩
  | .hbm, ⟨4, _⟩ => ⟨S32768x2048, .f32⟩
  | .hbm, ⟨5, _⟩ => ⟨S2048x8192, .f32⟩
  | .hbm, ⟨6, _⟩ => ⟨S2048x8192, .bf16⟩
  | .hbm, ⟨7, _⟩ => ⟨S1x2048, .f32⟩
  | .hbm, ⟨8, _⟩ => ⟨S8192, .f32⟩
  | .hbm, ⟨9, _⟩ => ⟨S1x8192, .f32⟩
  | .hbm, ⟨10, _⟩ => ⟨S32768x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x4096x2048 : Shape := ⟨3, ![8, 4096, 2048]⟩
abbrev S2048 : Shape := ⟨1, ![2048]⟩
abbrev S2048x14352 : Shape := ⟨2, ![2048, 14352]⟩
abbrev S14352 : Shape := ⟨1, ![14352]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x14352 : Shape := ⟨3, ![8, 4096, 14352]⟩
abbrev S1x1x14352 : Shape := ⟨3, ![1, 1, 14352]⟩
abbrev S8x4096x8192 : Shape := ⟨3, ![8, 4096, 8192]⟩
abbrev S32768x8192 : Shape := ⟨2, ![32768, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x14352, .f32⟩
  | .hbm, ⟨3, _⟩ => ⟨S14352, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x14352, .f32⟩
  | .hbm, ⟨21, _⟩ => ⟨S1x1x14352, .f32⟩
  | .hbm, ⟨22, _⟩ => ⟨S8x4096x14352, .f32⟩
  | .hbm, ⟨23, _⟩ => ⟨S8x4096x14352, .f32⟩
  | .hbm, ⟨24, _⟩ => ⟨S8x4096x8192, .f32⟩
  | .hbm, ⟨25, _⟩ => ⟨S8x4096x8192, .bf16⟩
  | .hbm, ⟨26, _⟩ => ⟨S32768x8192, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel3.lean ====
abbrev S8x4096x2048 : Shape := ⟨3, ![8, 4096, 2048]⟩
abbrev S2048 : Shape := ⟨1, ![2048]⟩
abbrev S2048x14352 : Shape := ⟨2, ![2048, 14352]⟩
abbrev S14352 : Shape := ⟨1, ![14352]⟩
abbrev S32768x2048 : Shape := ⟨2, ![32768, 2048]⟩
abbrev S2048x4096 : Shape := ⟨2, ![2048, 4096]⟩
abbrev S1x2048 : Shape := ⟨2, ![1, 2048]⟩
abbrev S4096 : Shape := ⟨1, ![4096]⟩
abbrev S1x4096 : Shape := ⟨2, ![1, 4096]⟩
abbrev S32768x4096 : Shape := ⟨2, ![32768, 4096]⟩
abbrev S1024x2048 : Shape := ⟨2, ![1024, 2048]⟩
abbrev S2048x1024 : Shape := ⟨2, ![2048, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 11
  | .vmem => 10
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x14352, .f32⟩
  | .hbm, ⟨3, _⟩ => ⟨S14352, .f32⟩
  | .hbm, ⟨4, _⟩ => ⟨S32768x2048, .f32⟩
  | .hbm, ⟨5, _⟩ => ⟨S2048x4096, .f32⟩
  | .hbm, ⟨6, _⟩ => ⟨S2048x4096, .bf16⟩
  | .hbm, ⟨7, _⟩ => ⟨S1x2048, .f32⟩
  | .hbm, ⟨8, _⟩ => ⟨S4096, .f32⟩
  | .hbm, ⟨9, _⟩ => ⟨S1x4096, .f32⟩
  | .hbm, ⟨10, _⟩ => ⟨S32768x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8x4096x2048 : Shape := ⟨3, ![8, 4096, 2048]⟩
abbrev S2048 : Shape := ⟨1, ![2048]⟩
abbrev S2048x14352 : Shape := ⟨2, ![2048, 14352]⟩
abbrev S14352 : Shape := ⟨1, ![14352]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x14352 : Shape := ⟨3, ![8, 4096, 14352]⟩
abbrev S1x1x14352 : Shape := ⟨3, ![1, 1, 14352]⟩
abbrev S8x4096x4096 : Shape := ⟨3, ![8, 4096, 4096]⟩
abbrev S32768x4096 : Shape := ⟨2, ![32768, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x14352, .f32⟩
  | .hbm, ⟨3, _⟩ => ⟨S14352, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x14352, .f32⟩
  | .hbm, ⟨21, _⟩ => ⟨S1x1x14352, .f32⟩
  | .hbm, ⟨22, _⟩ => ⟨S8x4096x14352, .f32⟩
  | .hbm, ⟨23, _⟩ => ⟨S8x4096x14352, .f32⟩
  | .hbm, ⟨24, _⟩ => ⟨S8x4096x4096, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S8x4096x4096, .f32⟩
  | .hbm, ⟨30, _⟩ => ⟨S_, .f32⟩
  | .hbm, ⟨31, _⟩ => ⟨S8x4096x4096, .f32⟩
  | .hbm, ⟨32, _⟩ => ⟨S8x4096x4096, .f32⟩
  | .hbm, ⟨33, _⟩ => ⟨S8x4096x4096, .bf16⟩
  | .hbm, ⟨34, _⟩ => ⟨S32768x4096, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Kernel4.lean ====
abbrev S8x4096x2048 : Shape := ⟨3, ![8, 4096, 2048]⟩
abbrev S2048 : Shape := ⟨1, ![2048]⟩
abbrev S2048x14352 : Shape := ⟨2, ![2048, 14352]⟩
abbrev S14352 : Shape := ⟨1, ![14352]⟩
abbrev S32768x2048 : Shape := ⟨2, ![32768, 2048]⟩
abbrev S2048x16 : Shape := ⟨2, ![2048, 16]⟩
abbrev S_ : Shape := ⟨0, ![]⟩
abbrev S2048x128 : Shape := ⟨2, ![2048, 128]⟩
abbrev S16 : Shape := ⟨1, ![16]⟩
abbrev S1x16 : Shape := ⟨2, ![1, 16]⟩
abbrev S1x128 : Shape := ⟨2, ![1, 128]⟩
abbrev S2048x1024 : Shape := ⟨2, ![2048, 1024]⟩
abbrev S1x2048 : Shape := ⟨2, ![1, 2048]⟩
abbrev S1024 : Shape := ⟨1, ![1024]⟩
abbrev S1x1024 : Shape := ⟨2, ![1, 1024]⟩
abbrev S32768x128 : Shape := ⟨2, ![32768, 128]⟩
abbrev S32768x1024 : Shape := ⟨2, ![32768, 1024]⟩
abbrev S512x2048 : Shape := ⟨2, ![512, 2048]⟩
abbrev S2048x512 : Shape := ⟨2, ![2048, 512]⟩
abbrev S1x512 : Shape := ⟨2, ![1, 512]⟩
abbrev S512x128 : Shape := ⟨2, ![512, 128]⟩
abbrev S512x512 : Shape := ⟨2, ![512, 512]⟩
abbrev S512 : Shape := ⟨1, ![512]⟩
abbrev S512x1 : Shape := ⟨2, ![512, 1]⟩
abbrev S8x4096x1024 : Shape := ⟨3, ![8, 4096, 1024]⟩
abbrev S8x30x1024 : Shape := ⟨3, ![8, 30, 1024]⟩

abbrev nBuf : Space → Nat
  | .hbm => 31
  | .vmem => 19
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x14352, .f32⟩
  | .hbm, ⟨3, _⟩ => ⟨S14352, .f32⟩
  | .hbm, ⟨4, _⟩ => ⟨S32768x2048, .f32⟩
  | .hbm, ⟨5, _⟩ => ⟨S2048x16, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S16, .f32⟩
  | .hbm, ⟨10, _⟩ => ⟨S1x16, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S2048x128, .bf16⟩
  | .hbm, ⟨15, _⟩ => ⟨S2048x128, .f32⟩
  | .hbm, ⟨16, _⟩ => ⟨S2048x128, .f32⟩
  | .hbm, ⟨17, _⟩ => ⟨S2048x128, .bf16⟩
  | .hbm, ⟨18, _⟩ => ⟨S2048x1024, .f32⟩
  | .hbm, ⟨19, _⟩ => ⟨S2048x1024, .bf16⟩
  | .hbm, ⟨20, _⟩ => ⟨S2048x1024, .f32⟩
  | .hbm, ⟨21, _⟩ => ⟨S2048x1024, .bf16⟩
  | .hbm, ⟨22, _⟩ => ⟨S1x2048, .f32⟩
  | .hbm, ⟨23, _⟩ => ⟨S1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S32768x128, .f32⟩
  | .hbm, ⟨28, _⟩ => ⟨S32768x1024, .f32⟩
  | .hbm, ⟨29, _⟩ => ⟨S8x4096x1024, .f32⟩
  | .hbm, ⟨30, _⟩ => ⟨S8x30x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x128, .bf16⟩
  | .local _ .vmem, ⟨4, _⟩ => ⟨S2048x128, .bf16⟩
  | .local _ .vmem, ⟨5, _⟩ => ⟨S1x128, .f32⟩
  | .local _ .vmem, ⟨6, _⟩ => ⟨S2048x512, .bf16⟩
  | .local _ .vmem, ⟨7, _⟩ => ⟨S2048x512, .bf16⟩
  | .local _ .vmem, ⟨8, _⟩ => ⟨S1x512, .f32⟩
  | .local _ .vmem, ⟨9, _⟩ => ⟨S1x512, .f32⟩
  | .local _ .vmem, ⟨10, _⟩ => ⟨S2048x512, .bf16⟩
  | .local _ .vmem, ⟨11, _⟩ => ⟨S2048x512, .bf16⟩
  | .local _ .vmem, ⟨12, _⟩ => ⟨S1x512, .f32⟩
  | .local _ .vmem, ⟨13, _⟩ => ⟨S1x512, .f32⟩
  | .local _ .vmem, ⟨14, _⟩ => ⟨S512x128, .f32⟩
  | .local _ .vmem, ⟨15, _⟩ => ⟨S512x128, .f32⟩
  | .local _ .vmem, ⟨16, _⟩ => ⟨S512x512, .f32⟩
  | .local _ .vmem, ⟨17, _⟩ => ⟨S512x512, .f32⟩
  | .local _ .vmem, ⟨18, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v20 : Ref sig .tc := ⟨.hbm, 29, rfl⟩
abbrev main_v21 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![64, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference4Ideal.lean ====
abbrev S8x4096x2048 : Shape := ⟨3, ![8, 4096, 2048]⟩
abbrev S2048 : Shape := ⟨1, ![2048]⟩
abbrev S2048x14352 : Shape := ⟨2, ![2048, 14352]⟩
abbrev S14352 : Shape := ⟨1, ![14352]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x14352 : Shape := ⟨3, ![8, 4096, 14352]⟩
abbrev S1x1x14352 : Shape := ⟨3, ![1, 1, 14352]⟩
abbrev S8x4096x1024 : Shape := ⟨3, ![8, 4096, 1024]⟩
abbrev S8x30x1024 : Shape := ⟨3, ![8, 30, 1024]⟩
abbrev S8x4126x1024 : Shape := ⟨3, ![8, 4126, 1024]⟩
abbrev S32768x1024 : Shape := ⟨2, ![32768, 1024]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048x14352, .f32⟩
  | .hbm, ⟨3, _⟩ => ⟨S14352, .f32⟩
  | .hbm, ⟨4, _⟩ => ⟨S8x4096x2048, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x2048, .f32⟩
  | .hbm, ⟨16, _⟩ => ⟨S8x4096x2048, .f32⟩
  | .hbm, ⟨17, _⟩ => ⟨S1x1x2048, .f32⟩
  | .hbm, ⟨18, _⟩ => ⟨S8x4096x2048, .f32⟩
  | .hbm, ⟨19, _⟩ => ⟨S8x4096x2048, .f32⟩
  | .hbm, ⟨20, _⟩ => ⟨S8x4096x14352, .f32⟩
  | .hbm, ⟨21, _⟩ => ⟨S1x1x14352, .f32⟩
  | .hbm, ⟨22, _⟩ => ⟨S8x4096x14352, .f32⟩
  | .hbm, ⟨23, _⟩ => ⟨S8x4096x14352, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S8x4096x1024, .f32⟩
  | .hbm, ⟨30, _⟩ => ⟨S8x4096x1024, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S8x4096x1024, .f32⟩
  | .hbm, ⟨35, _⟩ => ⟨S_, .f32⟩
  | .hbm, ⟨36, _⟩ => ⟨S8x30x1024, .f32⟩
  | .hbm, ⟨37, _⟩ => ⟨S8x4126x1024, .f32⟩
  | .hbm, ⟨38, _⟩ => ⟨S32768x1024, .f32⟩
  | .hbm, ⟨39, _⟩ => ⟨S8x30x1024, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel5.lean ====
abbrev S32 : Shape := ⟨1, ![32]⟩
abbrev S1212416x128 : Shape := ⟨2, ![1212416, 128]⟩
abbrev S32x2048x2048 : Shape := ⟨3, ![32, 2048, 2048]⟩
abbrev S32x2048 : Shape := ⟨2, ![32, 2048]⟩
abbrev S_ : Shape := ⟨0, ![]⟩
abbrev S296 : Shape := ⟨1, ![296]⟩
abbrev S1x32 : Shape := ⟨2, ![1, 32]⟩
abbrev S296x1 : Shape := ⟨2, ![296, 1]⟩
abbrev S296x32 : Shape := ⟨2, ![296, 32]⟩
abbrev S1 : Shape := ⟨1, ![1]⟩
abbrev S297 : Shape := ⟨1, ![297]⟩
abbrev S32x1x2048 : Shape := ⟨3, ![32, 1, 2048]⟩
abbrev S151552x2048 : Shape := ⟨2, ![151552, 2048]⟩
abbrev S4096x128 : Shape := ⟨2, ![4096, 128]⟩
abbrev S1x2048x512 : Shape := ⟨3, ![1, 2048, 512]⟩
abbrev S1x1x512 : Shape := ⟨3, ![1, 1, 512]⟩
abbrev S512x512 : Shape := ⟨2, ![512, 512]⟩
abbrev S2048x512 : Shape := ⟨2, ![2048, 512]⟩
abbrev S512x128 : Shape := ⟨2, ![512, 128]⟩
abbrev S512x1024 : Shape := ⟨2, ![512, 1024]⟩
abbrev S512x2048 : Shape := ⟨2, ![512, 2048]⟩
abbrev S1x512 : Shape := ⟨2, ![1, 512]⟩

abbrev nBuf : Space → Nat
  | .hbm => 49
  | .vmem => 14
  | .smem => 1
  | _ => 0

abbrev bufTy : (tb : Table) → Fin (tcTables nBuf tb) → BufTy
  | .hbm, ⟨0, _⟩ => ⟨S32, .i32⟩
  | .hbm, ⟨1, _⟩ => ⟨S1212416x128, .i32⟩
  | .hbm, ⟨2, _⟩ => ⟨S32x2048x2048, .f32⟩
  | .hbm, ⟨3, _⟩ => ⟨S32x2048, .f32⟩
  | .hbm, ⟨4, _⟩ => ⟨S32x2048x2048, .f32⟩
  | .hbm, ⟨5, _⟩ => ⟨S32x2048, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S296, .i32⟩
  | .hbm, ⟨34, _⟩ => ⟨S1x32, .i32⟩
  | .hbm, ⟨35, _⟩ => ⟨S296x1, .i32⟩
  | .hbm, ⟨36, _⟩ => ⟨S296x32, .i32⟩
  | .hbm, ⟨37, _⟩ => ⟨S296x32, .i32⟩
  | .hbm, ⟨38, _⟩ => ⟨S296x32, .i1⟩
  | .hbm, ⟨39, _⟩ => ⟨S296x32, .i32⟩
  | .hbm, ⟨40, _⟩ => ⟨S_, .i32⟩
  | .hbm, ⟨41, _⟩ => ⟨S296, .i32⟩
  | .hbm, ⟨42, _⟩ => ⟨S_, .i32⟩
  | .hbm, ⟨43, _⟩ => ⟨S296, .i32⟩
  | .hbm, ⟨44, _⟩ => ⟨S296, .i32⟩
  | .hbm, ⟨45, _⟩ => ⟨S1, .i32⟩
  | .hbm, ⟨46, _⟩ => ⟨S32x1x2048, .f32⟩
  | .hbm, ⟨47, _⟩ => ⟨S32x1x2048, .f32⟩
  | .hbm, ⟨48, _⟩ => ⟨S151552x2048, .bf16⟩
  | .local _ .vmem, ⟨0, _⟩ => ⟨S4096x128, .i32⟩
  | .local _ .vmem, ⟨1, _⟩ => ⟨S4096x128, .i32⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S1x2048x512, .f32⟩
  | .local _ .vmem, ⟨7, _⟩ => ⟨S1x2048x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .smem, ⟨0, _⟩ => ⟨S297, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_c_3 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 296], ![false, false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v5 : BitVec 32 := Scalar.subi arg1 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg1 : BitVec 32 := BitVec.ofNat 32 (i 1).val
  let v1 : BitVec 1 := Scalar.cmpi .slt arg1 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg1 : BitVec 32 := BitVec.ofNat 32 (i 1).val
  let v1 : BitVec 1 := Scalar.cmpi .slt arg1 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (inb_S297_S1_296 : ∀ a, (![296] : Fin 1 → Nat) a + S1.size a ≤ S297.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c296 : Index := 296#32
  let v0 : BitVec 32 := pf.at 0 (Rect.unit (s := S297) ![296] S1.size inb_S297_S1_296) numel1_S1
  let v1 : BitVec 1 := Scalar.cmpi .slt arg1 v0
  let c0_i32 : BitVec 32 := 0#32
  let v2 : BitVec 32 := Scalar.select v1 arg1 c0_i32
  let c0_i32_0 : BitVec 32 := 0#32
  let c0_i32_1 : BitVec 32 := 0#32
  ![v2.toNat, c0_i32_0.toNat]

def cc0_transform_1 (k0_off1_inb : ∀ i : grid0.Coords, ∀ a, (k0_off1 i) a + S1.size a ≤ S297.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S297) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S297.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S297) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S297.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S297) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S297.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S297) ![v0.toNat] S1.size (k0_off1_inb i)) numel1_S1
  let c0_i32 : BitVec 32 := 0#32
  let c0_i32_0 : BitVec 32 := 0#32
  ![v1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S32 : Shape := ⟨1, ![32]⟩
abbrev S1212416x128 : Shape := ⟨2, ![1212416, 128]⟩
abbrev S32x2048x2048 : Shape := ⟨3, ![32, 2048, 2048]⟩
abbrev S32x2048 : Shape := ⟨2, ![32, 2048]⟩
abbrev S151552x1024 : Shape := ⟨2, ![151552, 1024]⟩
abbrev S_ : Shape := ⟨0, ![]⟩
abbrev S151552x2048 : Shape := ⟨2, ![151552, 2048]⟩
abbrev S296x512x2048 : Shape := ⟨3, ![296, 512, 2048]⟩
abbrev S296 : Shape := ⟨1, ![296]⟩
abbrev S1x32 : Shape := ⟨2, ![1, 32]⟩
abbrev S296x1 : Shape := ⟨2, ![296, 1]⟩
abbrev S296x32 : Shape := ⟨2, ![296, 32]⟩
abbrev S296x2048x2048 : Shape := ⟨3, ![296, 2048, 2048]⟩
abbrev S296x2048 : Shape := ⟨2, ![296, 2048]⟩
abbrev S296x1x2048 : Shape := ⟨3, ![296, 1, 2048]⟩
abbrev S1 : Shape := ⟨1, ![1]⟩
abbrev S296x1x1 : Shape := ⟨3, ![296, 1, 1]⟩

abbrev nBuf : Space → Nat
  | .hbm => 139
  | .vmem => 0
  | .smem => 0
  | _ => 0

abbrev hbmTy0_0 (i : Nat) : BufTy := match i % 128 with
  | 0 => ⟨S32, .i32⟩
  | 1 => ⟨S1212416x128, .i32⟩
  | 2 => ⟨S32x2048x2048, .f32⟩
  | 3 => ⟨S32x2048, .f32⟩
  | 4 => ⟨S32x2048x2048, .f32⟩
  | 5 => ⟨S32x2048, .f32⟩
  | 6 => ⟨S151552x1024, .i32⟩
  | 7 => ⟨S_, .i32⟩
  | 8 => ⟨S151552x1024, .i32⟩
  | 9 => ⟨S151552x1024, .i32⟩
  | 10 => ⟨S151552x1024, .f32⟩
  | 11 => ⟨S_, .i32⟩
  | 12 => ⟨S151552x1024, .i32⟩
  | 13 => ⟨S151552x1024, .i32⟩
  | 14 => ⟨S151552x1024, .f32⟩
  | 15 => ⟨S151552x2048, .f32⟩
  | 16 => ⟨S296x512x2048, .f32⟩
  | 17 => ⟨S296, .i32⟩
  | 18 => ⟨S_, .i32⟩
  | 19 => ⟨S32, .i32⟩
  | 20 => ⟨S32, .i32⟩
  | 21 => ⟨S_, .i32⟩
  | 22 => ⟨S32, .i32⟩
  | 23 => ⟨S32, .i32⟩
  | 24 => ⟨S_, .i32⟩
  | 25 => ⟨S_, .i32⟩
  | 26 => ⟨S32, .i32⟩
  | 27 => ⟨S32, .i32⟩
  | 28 => ⟨S32, .i32⟩
  | 29 => ⟨S_, .i32⟩
  | 30 => ⟨S32, .i32⟩
  | 31 => ⟨S32, .i1⟩
  | 32 => ⟨S32, .i32⟩
  | 33 => ⟨S32, .i32⟩
  | 34 => ⟨S_, .i32⟩
  | 35 => ⟨S32, .i32⟩
  | 36 => ⟨S32, .i1⟩
  | 37 => ⟨S32, .i1⟩
  | 38 => ⟨S_, .i32⟩
  | 39 => ⟨S32, .i32⟩
  | 40 => ⟨S32, .i32⟩
  | 41 => ⟨S32, .i32⟩
  | 42 => ⟨S_, .i32⟩
  | 43 => ⟨S_, .i32⟩
  | 44 => ⟨S32, .i32⟩
  | 45 => ⟨S1x32, .i32⟩
  | 46 => ⟨S296x1, .i32⟩
  | 47 => ⟨S296x32, .i32⟩
  | 48 => ⟨S296x32, .i32⟩
  | 49 => ⟨S296x32, .i1⟩
  | 50 => ⟨S296x32, .i32⟩
  | 51 => ⟨S_, .i32⟩
  | 52 => ⟨S296, .i32⟩
  | 53 => ⟨S_, .i32⟩
  | 54 => ⟨S296, .i32⟩
  | 55 => ⟨S296, .i32⟩
  | 56 => ⟨S_, .i32⟩
  | 57 => ⟨S296, .i32⟩
  | 58 => ⟨S296, .i1⟩
  | 59 => ⟨S_, .i32⟩
  | 60 => ⟨S296, .i32⟩
  | 61 => ⟨S296, .i32⟩
  | 62 => ⟨S296, .i32⟩
  | 63 => ⟨S296x1, .i32⟩
  | 64 => ⟨S296x2048x2048, .f32⟩
  | 65 => ⟨S296x512x2048, .f32⟩
  | 66 => ⟨S_, .i32⟩
  | 67 => ⟨S296, .i32⟩
  | 68 => ⟨S296, .i1⟩
  | 69 => ⟨S_, .i32⟩
  | 70 => ⟨S296, .i32⟩
  | 71 => ⟨S296, .i32⟩
  | 72 => ⟨S296, .i32⟩
  | 73 => ⟨S296x1, .i32⟩
  | 74 => ⟨S296x2048, .f32⟩
  | 75 => ⟨S296x1x2048, .f32⟩
  | 76 => ⟨S296x512x2048, .f32⟩
  | 77 => ⟨S296x512x2048, .f32⟩
  | 78 => ⟨S_, .f32⟩
  | 79 => ⟨S296x512x2048, .f32⟩
  | 80 => ⟨S296x512x2048, .f32⟩
  | 81 => ⟨S_, .i32⟩
  | 82 => ⟨S296, .i32⟩
  | 83 => ⟨S296, .i1⟩
  | 84 => ⟨S_, .i32⟩
  | 85 => ⟨S296, .i32⟩
  | 86 => ⟨S296, .i32⟩
  | 87 => ⟨S296, .i32⟩
  | 88 => ⟨S296x1, .i32⟩
  | 89 => ⟨S296x2048x2048, .f32⟩
  | 90 => ⟨S296x512x2048, .f32⟩
  | 91 => ⟨S_, .i32⟩
  | 92 => ⟨S296, .i32⟩
  | 93 => ⟨S296, .i1⟩
  | 94 => ⟨S_, .i32⟩
  | 95 => ⟨S296, .i32⟩
  | 96 => ⟨S296, .i32⟩
  | 97 => ⟨S296, .i32⟩
  | 98 => ⟨S296x1, .i32⟩
  | 99 => ⟨S296x2048, .f32⟩
  | 100 => ⟨S296x1x2048, .f32⟩
  | 101 => ⟨S296x512x2048, .f32⟩
  | 102 => ⟨S296x512x2048, .f32⟩
  | 103 => ⟨S_, .f32⟩
  | 104 => ⟨S_, .f32⟩
  | 105 => ⟨S_, .f32⟩
  | 106 => ⟨S296x512x2048, .f32⟩
  | 107 => ⟨S296x512x2048, .f32⟩
  | 108 => ⟨S_, .f32⟩
  | 109 => ⟨S296x512x2048, .f32⟩
  | 110 => ⟨S296x512x2048, .f32⟩
  | 111 => ⟨S_, .f32⟩
  | 112 => ⟨S296x512x2048, .f32⟩
  | 113 => ⟨S296x512x2048, .f32⟩
  | 114 => ⟨S296x512x2048, .f32⟩
  | 115 => ⟨S296x512x2048, .f32⟩
  | 116 => ⟨S_, .f32⟩
  | 117 => ⟨S296x512x2048, .f32⟩
  | 118 => ⟨S296x512x2048, .f32⟩
  | 119 => ⟨S_, .f32⟩
  | 120 => ⟨S296x512x2048, .f32⟩
  | 121 => ⟨S296x512x2048, .f32⟩
  | 122 => ⟨S296x512x2048, .f32⟩
  | 123 => ⟨S_, .f32⟩
  | 124 => ⟨S296x512x2048, .f32⟩
  | 125 => ⟨S296x512x2048, .f32⟩
  | 126 => ⟨S296x512x2048, .f32⟩
  | 127 => ⟨S1, .i32⟩
  | _ => ⟨S32, .i32⟩

abbrev hbmTy0_1 (i : Nat) : BufTy := match i % 128 with
  | 0 => ⟨S_, .i32⟩
  | 1 => ⟨S296, .i32⟩
  | 2 => ⟨S296, .i1⟩
  | 3 => ⟨S296x1x1, .i1⟩
  | 4 => ⟨S_, .f32⟩
  | 5 => ⟨S_, .f32⟩
  | 6 => ⟨S296x512x2048, .i1⟩
  | 7 => ⟨S296x512x2048, .f32⟩
  | 8 => ⟨S296x512x2048, .f32⟩
  | 9 => ⟨S296x512x2048, .bf16⟩
  | 10 => ⟨S151552x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v14 : Ref sig .tc := ⟨.hbm, 41, rfl⟩
abbrev main_call1_call0_c : Ref sig .tc := ⟨.hbm, 42, rfl⟩
abbrev main_call1_call0_v0 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_c_4 : Ref sig .tc := ⟨.hbm, 51, rfl⟩
abbrev main_v22 : Ref sig .tc := ⟨.hbm, 52, rfl⟩
abbrev main_c_5 : Ref sig .tc := ⟨.hbm, 53, rfl⟩
abbrev main_v23 : Ref sig .tc := ⟨.hbm, 54, rfl⟩
abbrev main_v24 : Ref sig .tc := ⟨.hbm, 55, rfl⟩
abbrev main_c_6 : Ref sig .tc := ⟨.hbm, 56, rfl⟩
abbrev main_v25 : Ref sig .tc := ⟨.hbm, 57, rfl⟩
abbrev main_v26 : Ref sig .tc := ⟨.hbm, 58, rfl⟩
abbrev main_c_7 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_c_8 : Ref sig .tc := ⟨.hbm, 66, rfl⟩
abbrev main_v33 : Ref sig .tc := ⟨.hbm, 67, rfl⟩
abbrev main_v34 : Ref sig .tc := ⟨.hbm, 68, rfl⟩
abbrev main_c_9 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_cst : Ref sig .tc := ⟨.hbm, 78, rfl⟩
abbrev main_v43 : Ref sig .tc := ⟨.hbm, 79, rfl⟩
abbrev main_v44 : Ref sig .tc := ⟨.hbm, 80, rfl⟩
abbrev main_c_10 : Ref sig .tc := ⟨.hbm, 81, rfl⟩
abbrev main_v45 : Ref sig .tc := ⟨.hbm, 82, rfl⟩
abbrev main_v46 : Ref sig .tc := ⟨.hbm, 83, rfl⟩
abbrev main_c_11 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_c_12 : Ref sig .tc := ⟨.hbm, 91, rfl⟩
abbrev main_v53 : Ref sig .tc := ⟨.hbm, 92, rfl⟩
abbrev main_v54 : Ref sig .tc := ⟨.hbm, 93, rfl⟩
abbrev main_c_13 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_14 : Ref sig .tc := ⟨.hbm, 103, rfl⟩
abbrev main_cst_15 : Ref sig .tc := ⟨.hbm, 104, rfl⟩
abbrev main_call2_v0 : Ref sig .tc := ⟨.hbm, 105, rfl⟩
abbrev main_call2_v1 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_v63 : Ref sig .tc := ⟨.hbm, 110, rfl⟩
abbrev main_cst_16 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_cst_17 : Ref sig .tc := ⟨.hbm, 116, rfl⟩
abbrev main_v68 : Ref sig .tc := ⟨.hbm, 117, rfl⟩
abbrev main_v69 : Ref sig .tc := ⟨.hbm, 118, rfl⟩
abbrev main_cst_18 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_cst_19 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_20 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩

abbrev nD : Nat := 1
abbrev τ : Topo := Topo.v7x

variable {F : FTy → Type} [FloatOps F]
-- ==== Kernel6.lean ====
abbrev S8x4096x8192 : Shape := ⟨3, ![8, 4096, 8192]⟩
abbrev S8x4096x16 : Shape := ⟨3, ![8, 4096, 16]⟩
abbrev S32768x8192 : Shape := ⟨2, ![32768, 8192]⟩
abbrev S32768x16 : Shape := ⟨2, ![32768, 16]⟩
abbrev S_ : Shape := ⟨0, ![]⟩
abbrev S32768x128 : Shape := ⟨2, ![32768, 128]⟩
abbrev S128x256x16 : Shape := ⟨3, ![128, 256, 16]⟩
abbrev S128x16x256 : Shape := ⟨3, ![128, 16, 256]⟩
abbrev S8x8x256x256 : Shape := ⟨4, ![8, 8, 256, 256]⟩
abbrev S8x8x256 : Shape := ⟨3, ![8, 8, 256]⟩
abbrev S8x8 : Shape := ⟨2, ![8, 8]⟩
abbrev S8x8x1x256 : Shape := ⟨4, ![8, 8, 1, 256]⟩
abbrev S8x8x1x1 : Shape := ⟨4, ![8, 8, 1, 1]⟩
abbrev S32768x2048 : Shape := ⟨2, ![32768, 2048]⟩
abbrev S256x2048 : Shape := ⟨2, ![256, 2048]⟩
abbrev S256x128 : Shape := ⟨2, ![256, 128]⟩
abbrev S1x16x256 : Shape := ⟨3, ![1, 16, 256]⟩
abbrev S1x8x256x256 : Shape := ⟨4, ![1, 8, 256, 256]⟩
abbrev S1x8x1x256 : Shape := ⟨4, ![1, 8, 1, 256]⟩
abbrev S1x8x1x1 : Shape := ⟨4, ![1, 8, 1, 1]⟩
abbrev S8x256x256 : Shape := ⟨3, ![8, 256, 256]⟩
abbrev S8x1x256 : Shape := ⟨3, ![8, 1, 256]⟩
abbrev S8x1x1 : Shape := ⟨3, ![8, 1, 1]⟩
abbrev S256x256 : Shape := ⟨2, ![256, 256]⟩
abbrev S16x256 : Shape := ⟨2, ![16, 256]⟩
abbrev S256x1 : Shape := ⟨2, ![256, 1]⟩
abbrev S1x256 : Shape := ⟨2, ![1, 256]⟩
abbrev S256 : Shape := ⟨1, ![256]⟩
abbrev S1x1x1 : Shape := ⟨3, ![1, 1, 1]⟩
abbrev S1x1 : Shape := ⟨2, ![1, 1]⟩
abbrev S1x1x256 : Shape := ⟨3, ![1, 1, 256]⟩
abbrev S1x256x256 : Shape := ⟨3, ![1, 256, 256]⟩

abbrev nBuf : Space → Nat
  | .hbm => 23
  | .vmem => 29
  | .smem => 0
  | _ => 0

abbrev bufTy : (tb : Table) → Fin (tcTables nBuf tb) → BufTy
  | .hbm, ⟨0, _⟩ => ⟨S8x4096x8192, .f32⟩
  | .hbm, ⟨1, _⟩ => ⟨S8x4096x16, .f32⟩
  | .hbm, ⟨2, _⟩ => ⟨S32768x8192, .f32⟩
  | .hbm, ⟨3, _⟩ => ⟨S32768x8192, .bf16⟩
  | .hbm, ⟨4, _⟩ => ⟨S32768x16, .f32⟩
  | .hbm, ⟨5, _⟩ => ⟨S_, .i32⟩
  | .hbm, ⟨6, _⟩ => ⟨S_, .f32⟩
  | .hbm, ⟨7, _⟩ => ⟨S32768x128, .f32⟩
  | .hbm, ⟨8, _⟩ => ⟨S32768x16, .f32⟩
  | .hbm, ⟨9, _⟩ => ⟨S128x256x16, .f32⟩
  | .hbm, ⟨10, _⟩ => ⟨S128x16x256, .f32⟩
  | .hbm, ⟨11, _⟩ => ⟨S_, .f32⟩
  | .hbm, ⟨12, _⟩ => ⟨S8x8x256x256, .f32⟩
  | .hbm, ⟨13, _⟩ => ⟨S_, .f32⟩
  | .hbm, ⟨14, _⟩ => ⟨S8x8x256, .f32⟩
  | .hbm, ⟨15, _⟩ => ⟨S_, .f32⟩
  | .hbm, ⟨16, _⟩ => ⟨S8x8, .f32⟩
  | .hbm, ⟨17, _⟩ => ⟨S8x8x1x256, .f32⟩
  | .hbm, ⟨18, _⟩ => ⟨S8x8x1x1, .f32⟩
  | .hbm, ⟨19, _⟩ => ⟨S32768x2048, .bf16⟩
  | .hbm, ⟨20, _⟩ => ⟨S8x8x256x256, .f32⟩
  | .hbm, ⟨21, _⟩ => ⟨S8x8x1x256, .f32⟩
  | .hbm, ⟨22, _⟩ => ⟨S8x8x1x1, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x128, .f32⟩
  | .local _ .vmem, ⟨9, _⟩ => ⟨S256x128, .f32⟩
  | .local _ .vmem, ⟨10, _⟩ => ⟨S1x16x256, .f32⟩
  | .local _ .vmem, ⟨11, _⟩ => ⟨S1x16x256, .f32⟩
  | .local _ .vmem, ⟨12, _⟩ => ⟨S1x8x256x256, .f32⟩
  | .local _ .vmem, ⟨13, _⟩ => ⟨S1x8x256x256, .f32⟩
  | .local _ .vmem, ⟨14, _⟩ => ⟨S1x8x1x256, .f32⟩
  | .local _ .vmem, ⟨15, _⟩ => ⟨S1x8x1x256, .f32⟩
  | .local _ .vmem, ⟨16, _⟩ => ⟨S1x8x1x1, .f32⟩
  | .local _ .vmem, ⟨17, _⟩ => ⟨S1x8x1x1, .f32⟩
  | .local _ .vmem, ⟨18, _⟩ => ⟨S256x2048, .bf16⟩
  | .local _ .vmem, ⟨19, _⟩ => ⟨S256x2048, .bf16⟩
  | .local _ .vmem, ⟨20, _⟩ => ⟨S1x8x256x256, .f32⟩
  | .local _ .vmem, ⟨21, _⟩ => ⟨S1x8x256x256, .f32⟩
  | .local _ .vmem, ⟨22, _⟩ => ⟨S1x8x1x256, .f32⟩
  | .local _ .vmem, ⟨23, _⟩ => ⟨S1x8x1x256, .f32⟩
  | .local _ .vmem, ⟨24, _⟩ => ⟨S1x8x1x1, .f32⟩
  | .local _ .vmem, ⟨25, _⟩ => ⟨S1x8x1x1, .f32⟩
  | .local _ .vmem, ⟨26, _⟩ => ⟨S8x256x256, .f32⟩
  | .local _ .vmem, ⟨27, _⟩ => ⟨S8x1x256, .f32⟩
  | .local _ .vmem, ⟨28, _⟩ => ⟨S8x1x1, .f32⟩
  | _, _ => ⟨S8x4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev main_v12_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v1226 : BitVec 1 := Scalar.cmpi .eq arg1 c15_i32
  let v1227 : BitVec 32 := Scalar.extui v1226
  let c0_i32_398 : BitVec 32 := 0#32
  let v1228 : BitVec 1 := Scalar.cmpi .ne v1227 c0_i32_398
  v1228

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x8x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x8x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x8x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x8x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== Proof.M.Head.lean ====
/- One head of the mLSTM block, as the kernel's body computes it: the vector operations of one head, written once over the
   head's loaded rows. The kernel's eight heads are this text at eight offsets. -/
module

public import proofs.«01_k».proof.Proof.Gen.KernelIdeal.Value

@[expose] public section

set_option maxRecDepth 16384

noncomputable section

open Idealize.ShloMosaic Idealize.ShloMosaic.TcCoe Idealize.SL.Sem

namespace Cert.KernelIdeal.Head

open Cert.KernelIdeal Cert.KernelIdeal.Gen

variable {F : FTy → Type} [FloatOps F]

/-- The causal mask: row t keeps the columns s ≤ t. -/
def mask : IVec S32x32 1 := cmpi .sle (iota .tc S32x32 32 [1] iota_S32x32_d1_w32) (iota .tc S32x32 32 [0] iota_S32x32_d0_w32)

/-- The transposed mask: column s keeps the rows t ≤ s. -/
def maskT : IVec S32x32 1 := cmpi .sle (iota .tc S32x32 32 [0] iota_S32x32_d0_w32) (iota .tc S32x32 32 [1] iota_S32x32_d1_w32)

/-- The logarithm of the logistic function, as the body computes it, on a vector of any shape. -/
def lsg (s : Shape) (x : FVec F s .f32) : FVec F s .f32 :=
  have z : FVec F s .f32 := broadcast s (Scalar.ofBits .f32 0x00000000#32)
  have y : FVec F s .f32 := subf z x
  have d : FVec F s .f32 := subf y z
  subf z (select (cmpf .one d d) (addf y z) (addf (maximumf y z) (log1p (exp (subf z (absf d))))))

/-- The running sum of the log forget gates, as a column. -/
def fcol (rf : FVec F S1x32 .f32) : FVec F S32x1 .f32 :=
  shapeCast S32x1 (multiReduction .add [1] S32 (select mask
    (broadcastTo S32x32 (shapeCast S1x32 (lsg S1x32 rf) shapeCasts_S1x32_S1x32) broadcasts_S1x32_S32x32)
    (broadcast S32x32 (Scalar.ofBits .f32 0x00000000#32))) 0x00000000#32 reduces_S32x32_S32 (.inl rfl) rfl) shapeCasts_S32_S32x1

/-- The same running sum, as a row. -/
def frow (gf : FVec F S32x1 .f32) : FVec F S1x32 .f32 :=
  shapeCast S1x32 (multiReduction .add [0] S32 (select maskT
    (broadcastTo S32x32 (shapeCast S32x1 (lsg S32x1 gf) shapeCasts_S32x1_S32x1) broadcasts_S32x1_S32x32)
    (broadcast S32x32 (Scalar.ofBits .f32 0x00000000#32))) 0x00000000#32 reduces_S32x32_S32_2 (.inl rfl) rfl) shapeCasts_S32_S1x32

/-- The masked log weights of the block's own pairs. -/
def dmat (gf : FVec F S32x1 .f32) (ri rf : FVec F S1x32 .f32) : FVec F S32x32 .f32 :=
  select mask (addf (subf (broadcastTo S32x32 (fcol rf) broadcasts_S32x1_S32x32) (broadcastTo S32x32 (frow gf) broadcasts_S1x32_S32x32))
    (broadcastTo S32x32 ri broadcasts_S1x32_S32x32)) (broadcast S32x32 (Scalar.ofBits .f32 0xFF800000#32))

/-- The log weight of the carried state at every row. -/
def inter (rf : FVec F S1x32 .f32) (mh : Vec F S1x1x1 .f32) : FVec F S32x1 .f32 :=
  addf (fcol rf) (broadcastTo S32x1 (shapeCast S1x1 mh shapeCasts_S1x1x1_S1x1) broadcasts_S1x1_S32x1)

/-- The running maximum that every row is taken relative to. -/
def mrow (gf : FVec F S32x1 .f32) (ri rf : FVec F S1x32 .f32) (mh : Vec F S1x1x1 .f32) : FVec F S32x1 .f32 :=
  maximumf (inter rf mh) (shapeCast S32x1 (multiReduction .maximumf [1] S32 (dmat gf ri rf) 0xFF800000#32 reduces_S32x32_S32 (.inl rfl) rfl) shapeCasts_S32_S32x1)

/-- The scaled keys. -/
def ks (kh : Vec F S32x256 .bf16) : FVec F S32x256 .bf16 :=
  mulf (shapeCast S32x256 kh shapeCasts_S32x256_S32x256) (broadcast S32x256 (Scalar.ofBits .bf16 0x3D80#16))

/-- The weights of the carried state. -/
def arow (gf : FVec F S32x1 .f32) (ri rf : FVec F S1x32 .f32) (mh : Vec F S1x1x1 .f32) : FVec F S32x1 .f32 :=
  exp (subf (inter rf mh) (mrow gf ri rf mh))

/-- The weighted scores of the block's own pairs. -/
def wmat (qh kh : Vec F S32x256 .bf16) (gf : FVec F S32x1 .f32) (ri rf : FVec F S1x32 .f32) (mh : Vec F S1x1x1 .f32) : FVec F S32x32 .f32 :=
  mulf (exp (subf (dmat gf ri rf) (broadcastTo S32x32 (mrow gf ri rf mh) broadcasts_S32x1_S32x32)))
    (matmul dot_S32x256_S32x256_S32x32_1_1_0_0_n_n none (shapeCast S32x256 qh shapeCasts_S32x256_S32x256) (ks kh) (constant S32x32 .f32 0x00000000#32))

/-- The numerator of the head's result. -/
def num (qh kh vh : Vec F S32x256 .bf16) (gf : FVec F S32x1 .f32) (ri rf : FVec F S1x32 .f32) (mh : Vec F S1x1x1 .f32) (ch : Vec F S1x256x256 .f32) :
    FVec F S32x256 .f32 :=
  addf (mulf (broadcastTo S32x256 (arow gf ri rf mh) broadcasts_S32x1_S32x256)
      (matmul dot_S32x256_S256x256_S32x256_1_1_0_0_n_n none (shapeCast S32x256 qh shapeCasts_S32x256_S32x256)
        (truncf .bf16 (shapeCast S256x256 ch shapeCasts_S1x256x256_S256x256) bitsLt_bf16_f32) (constant S32x256 .f32 0x00000000#32)))
    (matmul dot_S32x32_S32x256_S32x256_1_0_0_1_n_n none (truncf .bf16 (wmat qh kh gf ri rf mh) bitsLt_bf16_f32)
      (shapeCast S32x256 vh shapeCasts_S32x256_S32x256) (constant S32x256 .f32 0x00000000#32))

/-- The denominator of the head's result, as a column. -/
def den (qh kh : Vec F S32x256 .bf16) (gf : FVec F S32x1 .f32) (ri rf : FVec F S1x32 .f32) (mh : Vec F S1x1x1 .f32) (nh : Vec F S1x1x256 .f32) :
    FVec F S32x1 .f32 :=
  maximumf (absf (addf
      (mulf (arow gf ri rf mh) (shapeCast S32x1 (multiReduction .add [1] S32
        (mulf (extf .f32 (shapeCast S32x256 qh shapeCasts_S32x256_S32x256) bitsLt_bf16_f32)
          (broadcastTo S32x256 (shapeCast S1x256 nh shapeCasts_S1x1x256_S1x256) broadcasts_S1x256_S32x256)) 0x00000000#32 reduces_S32x256_S32 (.inl rfl) rfl) shapeCasts_S32_S32x1))
      (shapeCast S32x1 (multiReduction .add [1] S32 (wmat qh kh gf ri rf mh) 0x00000000#32 reduces_S32x32_S32 (.inl rfl) rfl) shapeCasts_S32_S32x1)))
    (exp (subf (broadcast S32x1 (Scalar.ofBits .f32 0x00000000#32)) (mrow gf ri rf mh)))

/-- The head's gated result: the block's columns of the first output. -/
def hout (qh kh vh oh : Vec F S32x256 .bf16) (gf : FVec F S32x1 .f32) (ri rf : FVec F S1x32 .f32) (mh : Vec F S1x1x1 .f32) (nh : Vec F S1x1x256 .f32)
    (ch : Vec F S1x256x256 .f32) : FVec F S32x256 .bf16 :=
  truncf .bf16 (mulf (logistic (extf .f32 (shapeCast S32x256 oh shapeCasts_S32x256_S32x256) bitsLt_bf16_f32))
    (divf (num qh kh vh gf ri rf mh ch) (broadcastTo S32x256 (den qh kh gf ri rf mh nh) broadcasts_S32x1_S32x256))) bitsLt_bf16_f32

/-- The last row's running maximum. -/
def mlast (gf : FVec F S32x1 .f32) (ri rf : FVec F S1x32 .f32) (mh : Vec F S1x1x1 .f32) : FVec F S1x1 .f32 :=
  extractStridedSlice S1x1 ![31, 0] (mrow gf ri rf mh) slices_S32x1_o31_0_S1x1

/-- The weight each position enters the new state with. -/
def wend (gi gf : FVec F S32x1 .f32) (ri rf : FVec F S1x32 .f32) (mh : Vec F S1x1x1 .f32) : FVec F S32x1 .f32 :=
  exp (subf (addf (subf (broadcastTo S32x1 (extractStridedSlice S1x1 ![31, 0] (fcol rf) slices_S32x1_o31_0_S1x1) broadcasts_S1x1_S32x1) (fcol rf)) gi)
    (broadcastTo S32x1 (mlast gf ri rf mh) broadcasts_S1x1_S32x1))

/-- The weight the carried state enters the new state with. -/
def decay (gf : FVec F S32x1 .f32) (ri rf : FVec F S1x32 .f32) (mh : Vec F S1x1x1 .f32) : FVec F S1x1 .f32 :=
  exp (subf (extractStridedSlice S1x1 ![31, 0] (inter rf mh) slices_S32x1_o31_0_S1x1) (mlast gf ri rf mh))

/-- The new matrix state. -/
def cout (kh vh : Vec F S32x256 .bf16) (gi gf : FVec F S32x1 .f32) (ri rf : FVec F S1x32 .f32) (mh : Vec F S1x1x1 .f32) (ch : Vec F S1x256x256 .f32) :
    FVec F S1x256x256 .f32 :=
  shapeCast S1x256x256 (addf (mulf (broadcastTo S256x256 (decay gf ri rf mh) broadcasts_S1x1_S256x256) (shapeCast S256x256 ch shapeCasts_S1x256x256_S256x256))
    (matmul dot_S32x256_S32x256_S256x256_0_0_1_1_n_n none
      (truncf .bf16 (mulf (extf .f32 (shapeCast S32x256 vh shapeCasts_S32x256_S32x256) bitsLt_bf16_f32) (broadcastTo S32x256 (wend gi gf ri rf mh) broadcasts_S32x1_S32x256)) bitsLt_bf16_f32)
      (ks kh) (constant S256x256 .f32 0x00000000#32))) shapeCasts_S256x256_S1x256x256

/-- The new normalizer state. -/
def nout (kh : Vec F S32x256 .bf16) (gi gf : FVec F S32x1 .f32) (ri rf : FVec F S1x32 .f32) (mh : Vec F S1x1x1 .f32) (nh : Vec F S1x1x256 .f32) :
    FVec F S1x1x256 .f32 :=
  shapeCast S1x1x256 (addf (mulf (broadcastTo S1x256 (decay gf ri rf mh) broadcasts_S1x1_S1x256) (shapeCast S1x256 nh shapeCasts_S1x1x256_S1x256))
    (shapeCast S1x256 (multiReduction .add [0] S256 (mulf (extf .f32 (ks kh) bitsLt_bf16_f32) (broadcastTo S32x256 (wend gi gf ri rf mh) broadcasts_S32x1_S32x256))
      0x00000000#32 reduces_S32x256_S256 (.inl rfl) rfl) shapeCasts_S256_S1x256)) shapeCasts_S1x256_S1x1x256

/-- The new stabilizer state. -/
def mout (gf : FVec F S32x1 .f32) (ri rf : FVec F S1x32 .f32) (mh : Vec F S1x1x1 .f32) : FVec F S1x1x1 .f32 :=
  shapeCast S1x1x1 (mlast gf ri rf mh) shapeCasts_S1x1_S1x1x1

end Cert.KernelIdeal.Head

end
-- ==== Proof.M.Spec.lean ====
/- One head of one mLSTM block over the extended reals: what both programs compute, as scalar sums. -/
module

public import Idealize.ShloMosaic.Lib.Pointwise
public import Idealize.ShloMosaic.Lib.Pipeline.ValueKit
public import Idealize.ShloMosaic.Lib.IdealHost

@[expose] public section

set_option maxRecDepth 16384

noncomputable section

open Idealize.ShloMosaic Idealize.ShloMosaic.TcCoe Idealize.SL.Sem

namespace Cert.Spec

variable (i f : Fin 32 → EReal) (m : EReal) (q k v o : Fin 32 → Fin 256 → EReal) (C : Fin 256 → Fin 256 → EReal) (N : Fin 256 → EReal)

/-- The scale of the keys, one sixteenth. -/
def scale : EReal := Ideal.ofBits .bf16 0x3D80#16

/-- Minus infinity, as both programs write it. -/
def ninf : EReal := Ideal.ofBits .f32 0xFF800000#32

/-- The absolute value. -/
def ab (x : EReal) : EReal := FloatOps.absf (F := Ideal) (φ := .f32) x

/-- The logarithm of the logistic function. -/
def ls (x : EReal) : EReal := -(max (-x) 0 + Ideal.log1p (Ideal.exp (-ab (-x))))

/-- The running sum of the log forget gates. -/
def fs (t : Fin 32) : EReal := ∑ s : Fin 32, if s ≤ t then ls (f s) else 0

/-- The masked log weights. -/
def dm (t s : Fin 32) : EReal := if s ≤ t then fs f t - fs f s + i s else ninf

/-- The running maximum. -/
def mr (t : Fin 32) : EReal := max (fs f t + m) (Finset.fold max ninf (fun s => dm i f t s) Finset.univ)

/-- The weight of the carried state. -/
def ar (t : Fin 32) : EReal := Ideal.exp (fs f t + m - mr i f m t)

/-- The weighted scores. -/
def wm (t s : Fin 32) : EReal := Ideal.exp (dm i f t s - mr i f m t) * ∑ x, q t x * (k s x * scale)

/-- The denominator. -/
def dn (t : Fin 32) : EReal := max (ab (ar i f m t * (∑ x, q t x * N x) + ∑ s, wm i f m q k t s)) (Ideal.exp (-mr i f m t))

/-- The gated result. -/
def hh (t : Fin 32) (d : Fin 256) : EReal :=
  Ideal.logistic (o t d) * Ideal.div (ar i f m t * (∑ x, q t x * C d x) + ∑ s, wm i f m q k t s * v s d) (dn i f m q k N t)

/-- The weight each position enters the new state with. -/
def we (t : Fin 32) : EReal := Ideal.exp (fs f 31 - fs f t + i t - mr i f m 31)

/-- The weight the carried state enters the new state with. -/
def dc : EReal := Ideal.exp (fs f 31 + m - mr i f m 31)

/-- The new matrix state. -/
def co (e d : Fin 256) : EReal := dc i f m * C e d + ∑ s, v s e * we i f m s * (k s d * scale)

/-- The new normalizer state. -/
def no (d : Fin 256) : EReal := dc i f m * N d + ∑ s, k s d * scale * we i f m s

/-- Comparing two positions as 32-bit words compares the positions. -/
theorem sle_word : ∀ s t : Fin 32, IntOp.cmpi .sle (BitVec.ofNat 32 s.val) (BitVec.ofNat 32 t.val) = if s ≤ t then 1#1 else 0#1 := by
  decide +kernel

/-- A selection by the comparison of two positions. -/
theorem select_sle (s t : Fin 32) (x y : EReal) :
    Scalar.select (IntOp.cmpi .sle (BitVec.ofNat 32 s.val) (BitVec.ofNat 32 t.val)) x y = if s ≤ t then x else y := by
  rw [sle_word]
  split <;> rfl

/-- The reference's mask, built by a lower triangle, compares the positions. -/
theorem tril_word : ∀ s t : Fin 32,
    (Scalar.select (IntOp.cmpi .sge (IntOp.addi (BitVec.ofNat 32 t.val) 0#32) (BitVec.ofNat 32 s.val)) 1#1 0#1 : BitVec 1) = if s ≤ t then 1#1 else 0#1 := by
  decide +kernel

/-- A selection by the reference's mask. -/
theorem select_tril (s t : Fin 32) (x y : EReal) :
    Scalar.select (Scalar.select (IntOp.cmpi .sge (IntOp.addi (BitVec.ofNat 32 t.val) 0#32) (BitVec.ofNat 32 s.val)) 1#1 0#1 : BitVec 1) x y = if s ≤ t then x else y := by
  rw [tril_word]
  split <;> rfl

/-- One sixteenth is the same number at both formats. -/
theorem scale_f32 : Ideal.ofBits .f32 0x3D800000#32 = scale := by
  rw [scale, Ideal.ofBits_sixteenth_bf16]
  simp [Ideal.ofBits, Ideal.ieee, -EReal.coe_mul]; norm_num

end Cert.Spec

end
-- ==== Proof.M.HeadVal.lean ====
/- The kernel's one-head functions over the extended reals, read at an index: the scalar sums of Spec. -/
module

public import proofs.«01_k».proof.Proof.M.Head
public import proofs.«01_k».proof.Proof.M.Spec

@[expose] public section

set_option maxRecDepth 16384

noncomputable section

open Idealize.ShloMosaic Idealize.ShloMosaic.TcCoe Idealize.SL.Sem

namespace Cert.KernelIdeal.Head

open Cert.KernelIdeal Cert.KernelIdeal.Gen Cert.Spec

variable (qh kh vh oh : Vec Ideal S32x256 .bf16) (gi gf : FVec Ideal S32x1 .f32) (ri rf : FVec Ideal S1x32 .f32) (mh : Vec Ideal S1x1x1 .f32)
  (nh : Vec Ideal S1x1x256 .f32) (ch : Vec Ideal S1x256x256 .f32)

/-- The entries of a block of rows. -/
abbrev mat (x : Vec Ideal S32x256 .bf16) : Fin 32 → Fin 256 → EReal := fun t d => x (ix2 t d)

/-- The entries of a row of gates. -/
abbrev row (x : FVec Ideal S1x32 .f32) : Fin 32 → EReal := fun t => x (ix2 0 t)

/-- The entries of the normalizer. -/
abbrev nrm (x : Vec Ideal S1x1x256 .f32) : Fin 256 → EReal := fun d => x (ix3 0 0 d)

/-- The entries of the matrix state. -/
abbrev sta (x : Vec Ideal S1x256x256 .f32) : Fin 256 → Fin 256 → EReal := fun e d => x (ix3 0 e d)

/-- The column of running sums. -/
theorem fcol_at (t : Fin 32) : fcol rf (ix2 t 0) = fs (row rf) t := by
  pointwise [fcol, lsg, mask]
  refine Finset.sum_congr rfl fun s _ => ?_
  rw [select_sle]
  simp only [ne_eq, not_true_eq_false, if_false, zero_sub, ls, ab]

/-- The row of running sums, of the same gates read as a column. -/
theorem frow_at (hg : ∀ s, gf (ix2 s 0) = rf (ix2 0 s)) (t : Fin 32) : frow gf (ix2 0 t) = fs (row rf) t := by
  pointwise [frow, lsg, maskT]
  refine Finset.sum_congr rfl fun s _ => ?_
  rw [select_sle, hg]
  simp only [ne_eq, not_true_eq_false, if_false, zero_sub, ls, ab]

/-- The masked log weights. -/
theorem dmat_at (hg : ∀ s, gf (ix2 s 0) = rf (ix2 0 s)) (t s : Fin 32) : dmat gf ri rf (ix2 t s) = dm (row ri) (row rf) t s := by
  pointwise [dmat, mask]
  rw [select_sle, fcol_at, frow_at gf rf hg]
  rfl

/-- The log weight of the carried state. -/
theorem inter_at (t : Fin 32) : inter rf mh (ix2 t 0) = fs (row rf) t + mh (ix3 0 0 0) := by
  pointwise [inter]
  rw [fcol_at]

/-- The running maximum. -/
theorem mrow_at (hg : ∀ s, gf (ix2 s 0) = rf (ix2 0 s)) (t : Fin 32) : mrow gf ri rf mh (ix2 t 0) = mr (row ri) (row rf) (mh (ix3 0 0 0)) t := by
  pointwise [mrow]
  rw [inter_at]
  simp only [dmat_at gf ri rf hg]
  rfl

/-- The weight of the carried state. -/
theorem arow_at (hg : ∀ s, gf (ix2 s 0) = rf (ix2 0 s)) (t : Fin 32) : arow gf ri rf mh (ix2 t 0) = ar (row ri) (row rf) (mh (ix3 0 0 0)) t := by
  pointwise [arow]
  rw [inter_at, mrow_at gf ri rf mh hg]
  rfl

/-- The weighted scores. -/
theorem wmat_at (hg : ∀ s, gf (ix2 s 0) = rf (ix2 0 s)) (t s : Fin 32) :
    wmat qh kh gf ri rf mh (ix2 t s) = wm (row ri) (row rf) (mh (ix3 0 0 0)) (mat qh) (mat kh) t s := by
  pointwise [wmat, ks]
  rw [dmat_at gf ri rf hg, mrow_at gf ri rf mh hg]
  rfl

/-- The denominator. -/
theorem den_at (hg : ∀ s, gf (ix2 s 0) = rf (ix2 0 s)) (t : Fin 32) :
    den qh kh gf ri rf mh nh (ix2 t 0) = dn (row ri) (row rf) (mh (ix3 0 0 0)) (mat qh) (mat kh) (nrm nh) t := by
  pointwise [den]
  rw [arow_at gf ri rf mh hg, mrow_at gf ri rf mh hg, zero_sub]
  simp only [wmat_at qh kh gf ri rf mh hg]
  rfl

/-- The head's gated result. -/
theorem hout_at (hg : ∀ s, gf (ix2 s 0) = rf (ix2 0 s)) (t : Fin 32) (d : Fin 256) :
    hout qh kh vh oh gf ri rf mh nh ch (ix2 t d) = hh (row ri) (row rf) (mh (ix3 0 0 0)) (mat qh) (mat kh) (mat vh) (mat oh) (sta ch) (nrm nh) t d := by
  pointwise [hout, num]
  rw [arow_at gf ri rf mh hg, den_at qh kh gf ri rf mh nh hg]
  simp only [wmat_at qh kh gf ri rf mh hg]
  rfl

/-- The last running maximum. -/
theorem mlast_at (hg : ∀ s, gf (ix2 s 0) = rf (ix2 0 s)) : mlast gf ri rf mh (ix2 0 0) = mr (row ri) (row rf) (mh (ix3 0 0 0)) 31 := by
  pointwise [mlast]
  exact mrow_at gf ri rf mh hg 31

/-- The weight each position enters the new state with. -/
theorem wend_at (hg : ∀ s, gf (ix2 s 0) = rf (ix2 0 s)) (hi : ∀ s, gi (ix2 s 0) = ri (ix2 0 s)) (t : Fin 32) :
    wend gi gf ri rf mh (ix2 t 0) = we (row ri) (row rf) (mh (ix3 0 0 0)) t := by
  pointwise [wend]
  rw [mlast_at gf ri rf mh hg, fcol_at, fcol_at, hi]
  rfl

/-- The weight the carried state enters the new state with. -/
theorem decay_at (hg : ∀ s, gf (ix2 s 0) = rf (ix2 0 s)) : decay gf ri rf mh (ix2 0 0) = dc (row ri) (row rf) (mh (ix3 0 0 0)) := by
  pointwise [decay]
  rw [mlast_at gf ri rf mh hg, inter_at]
  rfl

/-- The new matrix state. -/
theorem cout_at (hg : ∀ s, gf (ix2 s 0) = rf (ix2 0 s)) (hi : ∀ s, gi (ix2 s 0) = ri (ix2 0 s)) (e d : Fin 256) :
    cout kh vh gi gf ri rf mh ch (ix3 0 e d) = co (row ri) (row rf) (mh (ix3 0 0 0)) (mat kh) (mat vh) (sta ch) e d := by
  pointwise [cout, ks]
  rw [decay_at gf ri rf mh hg]
  simp only [wend_at gi gf ri rf mh hg hi]
  rfl

/-- The new normalizer state. -/
theorem nout_at (hg : ∀ s, gf (ix2 s 0) = rf (ix2 0 s)) (hi : ∀ s, gi (ix2 s 0) = ri (ix2 0 s)) (d : Fin 256) :
    nout kh gi gf ri rf mh nh (ix3 0 0 d) = no (row ri) (row rf) (mh (ix3 0 0 0)) (mat kh) (nrm nh) d := by
  pointwise [nout, ks]
  rw [decay_at gf ri rf mh hg]
  simp only [wend_at gi gf ri rf mh hg hi]
  rfl

/-- The new stabilizer state. -/
theorem mout_at (hg : ∀ s, gf (ix2 s 0) = rf (ix2 0 s)) : mout gf ri rf mh (ix3 0 0 0) = mr (row ri) (row rf) (mh (ix3 0 0 0)) 31 := by
  pointwise [mout]
  exact mlast_at gf ri rf mh hg

end Cert.KernelIdeal.Head

end
-- ==== Proof.M.Body.lean ====
/- What a grid point leaves in its output blocks: head by head, the one-head functions at the head's columns and rows. -/
module

public import proofs.«01_k».proof.Proof.M.HeadVal
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Head Cert.Spec

/-- Column r of the gates block. -/
def gcol (r : Fin 16) (x : Vec Ideal S32x128 .f32) : FVec Ideal S32x1 .f32 :=
  extractStridedSlice S32x1 ![0, r.val] (k0_pay8 x) (by fin_cases r <;> decide)

/-- Row r of the transposed gates block. -/
def grow (r : Fin 16) (x : Vec Ideal S1x16x32 .f32) : FVec Ideal S1x32 .f32 :=
  extractStridedSlice S1x32 ![r.val, 0] (k0_pay9 x) (by fin_cases r <;> decide)

/-- Head h's columns of a projection block. -/
def cols (h : Fin 8) (x : Vec Ideal S32x2048 .bf16) : Vec Ideal S32x256 .bf16 :=
  View.ld x (Rect.unit (s := S32x2048) ![0, 256 * h.val] ![32, 256] (by fin_cases h <;> decide))

/-- Head h's stabilizer. -/
def mrd (h : Fin 8) (x : Vec Ideal S1x8x1x1 .f32) : Vec Ideal S1x1x1 .f32 :=
  View.ld (k0_pay6 x) (Rect.unit (s := S8x1x1) ![h.val, 0, 0] ![1, 1, 1] (by fin_cases h <;> decide))

/-- Head h's normalizer. -/
def nrd (h : Fin 8) (x : Vec Ideal S1x8x1x256 .f32) : Vec Ideal S1x1x256 .f32 :=
  View.ld (k0_pay5 x) (Rect.unit (s := S8x1x256) ![h.val, 0, 0] ![1, 1, 256] (by fin_cases h <;> decide))

/-- Head h's matrix state. -/
def crd (h : Fin 8) (x : Vec Ideal S1x8x256x256 .f32) : Vec Ideal S1x256x256 .f32 :=
  View.ld (k0_pay4 x) (Rect.unit (s := S8x256x256) ![h.val, 0, 0] ![1, 256, 256] (by fin_cases h <;> decide))

/-- A column of the gates, entry by entry. -/
theorem gcol_at (r : Fin 16) (x : Vec Ideal S32x128 .f32) (t : Fin 32) : gcol r x (ix2 t 0) = x (ix2 t ⟨r.val, by omega⟩) := by
  pointwise [gcol, k0_pay8]

/-- A row of the transposed gates, entry by entry. -/
theorem grow_at (r : Fin 16) (x : Vec Ideal S1x16x32 .f32) (t : Fin 32) : grow r x (ix2 0 t) = x (ix3 0 r t) := by
  pointwise [grow, k0_pay9]

/-- A head's columns, entry by entry. -/
theorem cols_at (h : Fin 8) (x : Vec Ideal S32x2048 .bf16) (t : Fin 32) (d : Fin 256) : cols h x (ix2 t d) = x (ix2 t ⟨256 * h.val + d.val, by omega⟩) := by
  pointwise [cols]

/-- A head's stabilizer, entry by entry. -/
theorem mrd_at (h : Fin 8) (x : Vec Ideal S1x8x1x1 .f32) : mrd h x (ix3 0 0 0) = x (ix4 0 h 0 0) := by
  pointwise [mrd, k0_pay6]

/-- A head's normalizer, entry by entry. -/
theorem nrd_at (h : Fin 8) (x : Vec Ideal S1x8x1x256 .f32) (d : Fin 256) : nrd h x (ix3 0 0 d) = x (ix4 0 h 0 d) := by
  pointwise [nrd, k0_pay5]

/-- A head's matrix state, entry by entry. -/
theorem crd_at (h : Fin 8) (x : Vec Ideal S1x8x256x256 .f32) (e d : Fin 256) : crd h x (ix3 0 e d) = x (ix4 0 h e d) := by
  pointwise [crd, k0_pay4]

/-- The input gates of head h, from the gates block. -/
abbrev bi (x : Vec Ideal S32x128 .f32) (h : Fin 8) : Fin 32 → EReal := fun t => x (ix2 t ⟨h.val, by omega⟩)

/-- The forget gates of head h, from the gates block. -/
abbrev bf (x : Vec Ideal S32x128 .f32) (h : Fin 8) : Fin 32 → EReal := fun t => x (ix2 t ⟨8 + h.val, by omega⟩)

/-- Head h's columns of a projection block, entry by entry. -/
abbrev bm (x : Vec Ideal S32x2048 .bf16) (h : Fin 8) : Fin 32 → Fin 256 → EReal := fun t d => x (ix2 t ⟨256 * h.val + d.val, by omega⟩)

section Pieces

variable (x0 x1 x2 x3 : Vec Ideal S32x2048 .bf16) (x4 : Vec Ideal S32x128 .f32) (x5 : Vec Ideal S1x16x32 .f32) (x6 : Vec Ideal S1x8x256x256 .f32)
  (x7 : Vec Ideal S1x8x1x256 .f32) (x8 : Vec Ideal S1x8x1x1 .f32)

/-- The input gate's index among the gates. -/
abbrev li (h : Fin 8) : Fin 16 := ⟨h.val, by omega⟩

/-- The forget gate's index among the gates. -/
abbrev lf (h : Fin 8) : Fin 16 := ⟨8 + h.val, by omega⟩

/-- Head h's new stabilizer. -/
def GMh (h : Fin 8) : EReal := mr (bi x4 h) (bf x4 h) (x8 (ix4 0 h 0 0)) 31

/-- The new stabilizers of the eight heads. -/
def GM (y : S8x1x1.Idx) : EReal := GMh x4 x8 (y 0)

/-- Head h's new normalizer. -/
def GNh (h : Fin 8) (d : Fin 256) : EReal := no (bi x4 h) (bf x4 h) (x8 (ix4 0 h 0 0)) (bm x1 h) (fun d => x7 (ix4 0 h 0 d)) d

/-- The new normalizers of the eight heads. -/
def GN (y : S8x1x256.Idx) : EReal := GNh x1 x4 x7 x8 (y 0) (y 2)

/-- Head h's new matrix state. -/
def GCh (h : Fin 8) (e d : Fin 256) : EReal :=
  co (bi x4 h) (bf x4 h) (x8 (ix4 0 h 0 0)) (bm x1 h) (bm x2 h) (fun e d => x6 (ix4 0 h e d)) e d

/-- The new matrix states of the eight heads. -/
def GC (y : S8x256x256.Idx) : EReal := GCh x1 x2 x4 x6 x8 (y 0) (y 1) (y 2)

/-- Head h's gated result. -/
def GHh (h : Fin 8) (t : Fin 32) (d : Fin 256) : EReal :=
  hh (bi x4 h) (bf x4 h) (x8 (ix4 0 h 0 0)) (bm x0 h) (bm x1 h) (bm x2 h) (bm x3 h) (fun e d => x6 (ix4 0 h e d)) (fun d => x7 (ix4 0 h 0 d)) t d

/-- The gated results of the eight heads, side by side. -/
def GH (y : S32x2048.Idx) : EReal :=
  have l : (y 1).val < 2048 := (y 1).isLt
  GHh x0 x1 x2 x3 x4 x6 x7 x8 ⟨(y 1).val / 256, by omega⟩ (y 0) ⟨(y 1).val % 256, by omega⟩

variable (hg : ∀ (r : Fin 16) (t : Fin 32), x5 (ix3 0 r t) = x4 (ix2 t ⟨r.val, by omega⟩))

include hg

/-- The two copies of the gates agree, column against row. -/
theorem gate_eq (r : Fin 16) (s : Fin 32) : gcol r x4 (ix2 s 0) = grow r x5 (ix2 0 s) := by
  rw [gcol_at, grow_at, hg]

/-- A row of the transposed gates is a column of the gates. -/
theorem row_i (h : Fin 8) : row (grow (li h) x5) = bi x4 h := funext fun s => (grow_at _ _ _).trans (hg _ _)

/-- The same for the forget gates. -/
theorem row_f (h : Fin 8) : row (grow (lf h) x5) = bf x4 h := funext fun s => (grow_at _ _ _).trans (hg _ _)

/-- Head h's store of the stabilizer. -/
theorem piece_m (h : Fin 8) (x : S1x1x1.Idx) (y : S8x1x1.Idx) (hy : y 0 = h) :
    mout (gcol (lf h) x4) (grow (li h) x5) (grow (lf h) x5) (mrd h x8) x = GM x4 x8 y := by
  obtain rfl : x = ix3 0 0 0 := by funext a; fin_cases a <;> exact Subsingleton.elim (α := Fin 1) _ _
  refine Eq.trans ?_ (congrArg (GMh x4 x8) (show y 0 = h from hy)).symm
  rw [mout_at _ _ _ _ (gate_eq x4 x5 hg (lf h)), row_i x4 x5 hg, row_f x4 x5 hg, mrd_at]
  rfl

/-- Head h's store of the normalizer. -/
theorem piece_n (h : Fin 8) (x : S1x1x256.Idx) (y : S8x1x256.Idx) (hy : y 0 = h) (hd : y 2 = x 2) :
    nout (cols h x1) (gcol (li h) x4) (gcol (lf h) x4) (grow (li h) x5) (grow (lf h) x5) (mrd h x8) (nrd h x7) x = GN x1 x4 x7 x8 y := by
  obtain ⟨d, rfl⟩ : ∃ d : Fin 256, x = ix3 0 0 d := ⟨x 2, by
    funext a
    fin_cases a
    · exact Subsingleton.elim (α := Fin 1) _ _
    · exact Subsingleton.elim (α := Fin 1) _ _
    · rfl⟩
  refine Eq.trans ?_ (congrArg₂ (GNh x1 x4 x7 x8) (show y 0 = h from hy) (show y 2 = d from hd)).symm
  rw [nout_at _ _ _ _ _ _ _ (gate_eq x4 x5 hg (lf h)) (gate_eq x4 x5 hg (li h)), row_i x4 x5 hg, row_f x4 x5 hg, mrd_at,
    show mat (cols h x1) = bm x1 h from funext fun t => funext fun d => cols_at _ _ _ _,
    show nrm (nrd h x7) = fun d => x7 (ix4 0 h 0 d) from funext fun d => nrd_at _ _ _]
  rfl

/-- Head h's store of the matrix state. -/
theorem piece_c (h : Fin 8) (x : S1x256x256.Idx) (y : S8x256x256.Idx) (hy : y 0 = h) (he : y 1 = x 1) (hd : y 2 = x 2) :
    cout (cols h x1) (cols h x2) (gcol (li h) x4) (gcol (lf h) x4) (grow (li h) x5) (grow (lf h) x5) (mrd h x8) (crd h x6) x = GC x1 x2 x4 x6 x8 y := by
  obtain ⟨e, d, rfl⟩ : ∃ e d : Fin 256, x = ix3 0 e d := ⟨x 1, x 2, by
    funext a
    fin_cases a
    · exact Subsingleton.elim (α := Fin 1) _ _
    · rfl
    · rfl⟩
  have hG : GC x1 x2 x4 x6 x8 y = GCh x1 x2 x4 x6 x8 h e d := by
    show GCh x1 x2 x4 x6 x8 (y 0) (y 1) (y 2) = _
    rw [show y 0 = h from hy, show y 1 = e from he, show y 2 = d from hd]
  rw [hG]
  rw [cout_at _ _ _ _ _ _ _ _ (gate_eq x4 x5 hg (lf h)) (gate_eq x4 x5 hg (li h)), row_i x4 x5 hg, row_f x4 x5 hg, mrd_at,
    show mat (cols h x1) = bm x1 h from funext fun t => funext fun d => cols_at _ _ _ _,
    show mat (cols h x2) = bm x2 h from funext fun t => funext fun d => cols_at _ _ _ _,
    show sta (crd h x6) = fun e d => x6 (ix4 0 h e d) from funext fun e => funext fun d => crd_at _ _ _ _]
  rfl

/-- Head h's store of the gated result. -/
theorem piece_h (h : Fin 8) (x : S32x256.Idx) (y : S32x2048.Idx) (h0 : (y 0).val = (x 0).val) (h1 : (y 1).val = 256 * h.val + (x 1).val) :
    hout (cols h x0) (cols h x1) (cols h x2) (cols h x3) (gcol (lf h) x4) (grow (li h) x5) (grow (lf h) x5) (mrd h x8) (nrd h x7) (crd h x6) x
      = GH x0 x1 x2 x3 x4 x6 x7 x8 y := by
  obtain ⟨t, d, rfl⟩ : ∃ (t : Fin 32) (d : Fin 256), x = ix2 t d := ⟨x 0, x 1, eq_ix2 x⟩
  rw [hout_at _ _ _ _ _ _ _ _ _ _ (gate_eq x4 x5 hg (lf h)), row_i x4 x5 hg, row_f x4 x5 hg, mrd_at]
  change (y 1).val = 256 * h.val + d.val at h1
  change (y 0).val = t.val at h0
  have hl := d.isLt
  unfold GH
  have e1 : (⟨(y 1).val / 256, by have : (y 1).val < 2048 := (y 1).isLt; omega⟩ : Fin 8) = h := Fin.ext (by dsimp only; omega)
  have e2 : (⟨(y 1).val % 256, by omega⟩ : Fin 256) = d := Fin.ext (by dsimp only; omega)
  have e3 : y 0 = t := Fin.ext h0
  simp only [e1, e2, e3]
  unfold GHh
  rw [show mat (cols h x0) = bm x0 h from funext fun t => funext fun d => cols_at _ _ _ _,
    show mat (cols h x1) = bm x1 h from funext fun t => funext fun d => cols_at _ _ _ _,
    show mat (cols h x2) = bm x2 h from funext fun t => funext fun d => cols_at _ _ _ _,
    show mat (cols h x3) = bm x3 h from funext fun t => funext fun d => cols_at _ _ _ _,
    show nrm (nrd h x7) = fun d => x7 (ix4 0 h 0 d) from funext fun d => nrd_at _ _ _,
    show sta (crd h x6) = fun e d => x6 (ix4 0 h e d) from funext fun e => funext fun d => crd_at _ _ _ _]

end Pieces

end Cert.KernelIdeal.Body

end
-- ==== Proof.M.Outs.lean ====
/- What grid point t leaves in each of its output blocks, as a function of its input blocks. -/
module

public import proofs.«01_k».proof.Proof.M.Body
public import Idealize.ShloMosaic.Lib.Pipeline.ValueKit

@[expose] public section

set_option maxRecDepth 16384
set_option maxHeartbeats 1000000

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.KernelIdeal.Head Cert.Spec

variable (m : (ℓ : Loc nD τ sig) → Buf (Elt Ideal) ℓ)

/-- A function's value at a point, along an equation between functions. -/
theorem via {α β : Type} (x : α) {f g : α → β} {y : β} (h : g x = y) (e : f = g) : f x = y := by rw [e, h]

/-- The last reshaping of the stabilizers only adds an axis. -/
theorem pay3_at (x : Vec Ideal S8x1x1 .f32) (h : Fin 8) : k0_pay3 x (ix4 0 h 0 0) = x (ix3 h 0 0) := by pointwise [k0_pay3]

/-- The last reshaping of the normalizers only adds an axis. -/
theorem pay2_at (x : Vec Ideal S8x1x256 .f32) (h : Fin 8) (d : Fin 256) : k0_pay2 x (ix4 0 h 0 d) = x (ix3 h 0 d) := by pointwise [k0_pay2]

/-- The last reshaping of the matrix states only adds an axis. -/
theorem pay1_at (x : Vec Ideal S8x256x256 .f32) (h : Fin 8) (e d : Fin 256) : k0_pay1 x (ix4 0 h e d) = x (ix3 h e d) := by pointwise [k0_pay1]

/-- The stabilizer block. -/
theorem outs_m (c : Dev nD) (t : Fin cfg0.N) (hg : ∀ (r : Fin 16) (s : Fin 32), iblk m c 5 t (ix3 0 r s) = iblk m c 4 t (ix2 s ⟨r.val, by omega⟩)) (h : Fin 8) :
    (outsAt0 m c t).2.2.2 (ix4 0 h 0 0) = GMh (iblk m c 4 t) (iblk m c 8 t) h := by
  unfold outsAt0 out0_A_12
  frame_out
  simp (disch := decide) only [↓ View.readCov_skip, ↓ View.readCov_cons_toLoadRect, ↓ View.readCov_fill]
  rw [pay3_at, View.readCov_eq_canon']
  generalize iblk m c 4 t = x4, iblk m c 5 t = x5, iblk m c 8 t = x8 at *
  change Vec Ideal S32x128 .f32 at x4
  change Vec Ideal S1x16x32 .f32 at x5
  change Vec Ideal S1x8x1x1 .f32 at x8
  refine (View.canon_append_of_piecesOf (GM x4 x8) [_] [_, _, _, _, _, _, _, _]
    ⟨fun x => ?_, fun x => ?_, fun x => ?_, fun x => ?_, fun x => ?_, fun x => ?_, fun x => ?_, fun x => ?_, trivial⟩ _ ?_).trans ?_
  rotate_left 8
  · exact View.cover_of_tiledL _ ![1, 1, 1] (by sl_kernel_rfl) _
  · exact congrArg (GMh x4 x8) (Fin.ext (by simp))
  on_goal 1 => refine via x (piece_m x4 x5 x8 hg 7 x _ (Fin.ext (by simp))) ?_
  on_goal 2 => refine via x (piece_m x4 x5 x8 hg 6 x _ (Fin.ext (by simp))) ?_
  on_goal 3 => refine via x (piece_m x4 x5 x8 hg 5 x _ (Fin.ext (by simp))) ?_
  on_goal 4 => refine via x (piece_m x4 x5 x8 hg 4 x _ (Fin.ext (by simp))) ?_
  on_goal 5 => refine via x (piece_m x4 x5 x8 hg 3 x _ (Fin.ext (by simp))) ?_
  on_goal 6 => refine via x (piece_m x4 x5 x8 hg 2 x _ (Fin.ext (by simp))) ?_
  on_goal 7 => refine via x (piece_m x4 x5 x8 hg 1 x _ (Fin.ext (by simp))) ?_
  on_goal 8 => refine via x (piece_m x4 x5 x8 hg 0 x _ (Fin.ext (by simp))) ?_
  all_goals
    dsimp only [k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86, k0_pay87,
        k0_pay88, k0_pay89, k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124,
        k0_pay125, k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147, k0_pay148,
        k0_pay149, k0_pay150, k0_pay151, k0_pay152, k0_pay153, k0_pay154, k0_pay155, k0_pay156, k0_pay157, k0_pay158, k0_pay159, k0_pay160,
        k0_pay161, k0_pay162, k0_pay163, k0_pay164, k0_pay165, k0_pay166, k0_pay167, k0_pay168, k0_pay169, k0_pay170, k0_pay171, k0_pay172,
        k0_pay173, k0_pay174, k0_pay175, k0_pay176, k0_pay177, k0_pay178, k0_pay179, k0_pay180, k0_pay181, k0_pay182, k0_pay183, k0_pay184,
        k0_pay185, k0_pay186, k0_pay187, k0_pay188, k0_pay189, k0_pay190, k0_pay191, k0_pay192, k0_pay193, k0_pay194, k0_pay195, k0_pay196,
        k0_pay197, k0_pay198, k0_pay199, k0_pay200, k0_pay201, k0_pay202, k0_pay203, k0_pay204, k0_pay205, k0_pay206, k0_pay207, k0_pay208,
        k0_pay209, k0_pay210, k0_pay211, mask, maskT, lsg, fcol, frow, dmat, inter, mrow, ks, arow, wmat, num, den, hout, mlast, wend, decay, cout,
        nout, mout, gcol, grow, cols, mrd, nrd, crd]
    try dsimp only [Fin.coe_ofNat_eq_mod, Nat.reduceMod, Nat.reduceAdd, Nat.reduceMul, Fin.isValue]
    try rfl

/-- The normalizer block. -/
theorem outs_n (c : Dev nD) (t : Fin cfg0.N) (hg : ∀ (r : Fin 16) (s : Fin 32), iblk m c 5 t (ix3 0 r s) = iblk m c 4 t (ix2 s ⟨r.val, by omega⟩)) (h : Fin 8) (d : Fin 256) :
    (outsAt0 m c t).2.2.1 (ix4 0 h 0 d) = GNh (iblk m c 1 t) (iblk m c 4 t) (iblk m c 7 t) (iblk m c 8 t) h d := by
  unfold outsAt0 out0_A_11
  frame_out
  simp (disch := decide) only [↓ View.readCov_skip, ↓ View.readCov_cons_toLoadRect, ↓ View.readCov_fill]
  rw [pay2_at, View.readCov_eq_canon']
  generalize iblk m c 1 t = x1, iblk m c 4 t = x4, iblk m c 5 t = x5, iblk m c 7 t = x7, iblk m c 8 t = x8 at *
  change Vec Ideal S32x2048 .bf16 at x1
  change Vec Ideal S32x128 .f32 at x4
  change Vec Ideal S1x16x32 .f32 at x5
  change Vec Ideal S1x8x1x256 .f32 at x7
  change Vec Ideal S1x8x1x1 .f32 at x8
  refine (View.canon_append_of_piecesOf (GN x1 x4 x7 x8) [_] [_, _, _, _, _, _, _, _]
    ⟨fun x => ?_, fun x => ?_, fun x => ?_, fun x => ?_, fun x => ?_, fun x => ?_, fun x => ?_, fun x => ?_, trivial⟩ _ ?_).trans ?_
  rotate_left 8
  · exact View.cover_of_tiledL _ ![1, 1, 256] (by sl_kernel_rfl) _
  · exact congrArg₂ (GNh x1 x4 x7 x8) (Fin.ext (by simp)) (Fin.ext (by simp))
  on_goal 1 => refine via x (piece_n x1 x4 x5 x7 x8 hg 7 x _ (Fin.ext (by simp)) (Fin.ext (by simp))) ?_
  on_goal 2 => refine via x (piece_n x1 x4 x5 x7 x8 hg 6 x _ (Fin.ext (by simp)) (Fin.ext (by simp))) ?_
  on_goal 3 => refine via x (piece_n x1 x4 x5 x7 x8 hg 5 x _ (Fin.ext (by simp)) (Fin.ext (by simp))) ?_
  on_goal 4 => refine via x (piece_n x1 x4 x5 x7 x8 hg 4 x _ (Fin.ext (by simp)) (Fin.ext (by simp))) ?_
  on_goal 5 => refine via x (piece_n x1 x4 x5 x7 x8 hg 3 x _ (Fin.ext (by simp)) (Fin.ext (by simp))) ?_
  on_goal 6 => refine via x (piece_n x1 x4 x5 x7 x8 hg 2 x _ (Fin.ext (by simp)) (Fin.ext (by simp))) ?_
  on_goal 7 => refine via x (piece_n x1 x4 x5 x7 x8 hg 1 x _ (Fin.ext (by simp)) (Fin.ext (by simp))) ?_
  on_goal 8 => refine via x (piece_n x1 x4 x5 x7 x8 hg 0 x _ (Fin.ext (by simp)) (Fin.ext (by simp))) ?_
  all_goals
    dsimp only [k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86, k0_pay87,
        k0_pay88, k0_pay89, k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124,
        k0_pay125, k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147, k0_pay148,
        k0_pay149, k0_pay150, k0_pay151, k0_pay152, k0_pay153, k0_pay154, k0_pay155, k0_pay156, k0_pay157, k0_pay158, k0_pay159, k0_pay160,
        k0_pay161, k0_pay162, k0_pay163, k0_pay164, k0_pay165, k0_pay166, k0_pay167, k0_pay168, k0_pay169, k0_pay170, k0_pay171, k0_pay172,
        k0_pay173, k0_pay174, k0_pay175, k0_pay176, k0_pay177, k0_pay178, k0_pay179, k0_pay180, k0_pay181, k0_pay182, k0_pay183, k0_pay184,
        k0_pay185, k0_pay186, k0_pay187, k0_pay188, k0_pay189, k0_pay190, k0_pay191, k0_pay192, k0_pay193, k0_pay194, k0_pay195, k0_pay196,
        k0_pay197, k0_pay198, k0_pay199, k0_pay200, k0_pay201, k0_pay202, k0_pay203, k0_pay204, k0_pay205, k0_pay206, k0_pay207, k0_pay208,
        k0_pay209, k0_pay210, k0_pay211, mask, maskT, lsg, fcol, frow, dmat, inter, mrow, ks, arow, wmat, num, den, hout, mlast, wend, decay, cout,
        nout, mout, gcol, grow, cols, mrd, nrd, crd]
    try dsimp only [Fin.coe_ofNat_eq_mod, Nat.reduceMod, Nat.reduceAdd, Nat.reduceMul, Fin.isValue]
    try rfl

/-- The matrix-state block. -/
theorem outs_c (c : Dev nD) (t : Fin cfg0.N) (hg : ∀ (r : Fin 16) (s : Fin 32), iblk m c 5 t (ix3 0 r s) = iblk m c 4 t (ix2 s ⟨r.val, by omega⟩)) (h : Fin 8) (e d : Fin 256) :
    (outsAt0 m c t).2.1 (ix4 0 h e d) = GCh (iblk m c 1 t) (iblk m c 2 t) (iblk m c 4 t) (iblk m c 6 t) (iblk m c 8 t) h e d := by
  unfold outsAt0 out0_A_10
  frame_out
  simp (disch := decide) only [↓ View.readCov_skip, ↓ View.readCov_cons_toLoadRect, ↓ View.readCov_fill]
  rw [pay1_at, View.readCov_eq_canon']
  generalize iblk m c 1 t = x1, iblk m c 2 t = x2, iblk m c 4 t = x4, iblk m c 5 t = x5, iblk m c 6 t = x6, iblk m c 8 t = x8 at *
  change Vec Ideal S32x2048 .bf16 at x1
  change Vec Ideal S32x2048 .bf16 at x2
  change Vec Ideal S32x128 .f32 at x4
  change Vec Ideal S1x16x32 .f32 at x5
  change Vec Ideal S1x8x256x256 .f32 at x6
  change Vec Ideal S1x8x1x1 .f32 at x8
  refine (View.canon_append_of_piecesOf (GC x1 x2 x4 x6 x8) [_] [_, _, _, _, _, _, _, _]
    ⟨fun x => ?_, fun x => ?_, fun x => ?_, fun x => ?_, fun x => ?_, fun x => ?_, fun x => ?_, fun x => ?_, trivial⟩ _ ?_).trans ?_
  rotate_left 8
  · exact View.cover_of_tiledL _ ![1, 256, 256] (by sl_kernel_rfl) _
  · exact congr (congrArg₂ (GCh x1 x2 x4 x6 x8) (Fin.ext (by simp)) (Fin.ext (by simp))) (Fin.ext (by simp))
  on_goal 1 => refine via x (piece_c x1 x2 x4 x5 x6 x8 hg 7 x _ (Fin.ext (by simp)) (Fin.ext (by simp)) (Fin.ext (by simp))) ?_
  on_goal 2 => refine via x (piece_c x1 x2 x4 x5 x6 x8 hg 6 x _ (Fin.ext (by simp)) (Fin.ext (by simp)) (Fin.ext (by simp))) ?_
  on_goal 3 => refine via x (piece_c x1 x2 x4 x5 x6 x8 hg 5 x _ (Fin.ext (by simp)) (Fin.ext (by simp)) (Fin.ext (by simp))) ?_
  on_goal 4 => refine via x (piece_c x1 x2 x4 x5 x6 x8 hg 4 x _ (Fin.ext (by simp)) (Fin.ext (by simp)) (Fin.ext (by simp))) ?_
  on_goal 5 => refine via x (piece_c x1 x2 x4 x5 x6 x8 hg 3 x _ (Fin.ext (by simp)) (Fin.ext (by simp)) (Fin.ext (by simp))) ?_
  on_goal 6 => refine via x (piece_c x1 x2 x4 x5 x6 x8 hg 2 x _ (Fin.ext (by simp)) (Fin.ext (by simp)) (Fin.ext (by simp))) ?_
  on_goal 7 => refine via x (piece_c x1 x2 x4 x5 x6 x8 hg 1 x _ (Fin.ext (by simp)) (Fin.ext (by simp)) (Fin.ext (by simp))) ?_
  on_goal 8 => refine via x (piece_c x1 x2 x4 x5 x6 x8 hg 0 x _ (Fin.ext (by simp)) (Fin.ext (by simp)) (Fin.ext (by simp))) ?_
  all_goals
    dsimp only [k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86, k0_pay87,
        k0_pay88, k0_pay89, k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124,
        k0_pay125, k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147, k0_pay148,
        k0_pay149, k0_pay150, k0_pay151, k0_pay152, k0_pay153, k0_pay154, k0_pay155, k0_pay156, k0_pay157, k0_pay158, k0_pay159, k0_pay160,
        k0_pay161, k0_pay162, k0_pay163, k0_pay164, k0_pay165, k0_pay166, k0_pay167, k0_pay168, k0_pay169, k0_pay170, k0_pay171, k0_pay172,
        k0_pay173, k0_pay174, k0_pay175, k0_pay176, k0_pay177, k0_pay178, k0_pay179, k0_pay180, k0_pay181, k0_pay182, k0_pay183, k0_pay184,
        k0_pay185, k0_pay186, k0_pay187, k0_pay188, k0_pay189, k0_pay190, k0_pay191, k0_pay192, k0_pay193, k0_pay194, k0_pay195, k0_pay196,
        k0_pay197, k0_pay198, k0_pay199, k0_pay200, k0_pay201, k0_pay202, k0_pay203, k0_pay204, k0_pay205, k0_pay206, k0_pay207, k0_pay208,
        k0_pay209, k0_pay210, k0_pay211, mask, maskT, lsg, fcol, frow, dmat, inter, mrow, ks, arow, wmat, num, den, hout, mlast, wend, decay, cout,
        nout, mout, gcol, grow, cols, mrd, nrd, crd]
    try dsimp only [Fin.coe_ofNat_eq_mod, Nat.reduceMod, Nat.reduceAdd, Nat.reduceMul, Fin.isValue]
    try rfl

/-- The block of gated results. -/
theorem outs_h (c : Dev nD) (t : Fin cfg0.N) (hg : ∀ (r : Fin 16) (s : Fin 32), iblk m c 5 t (ix3 0 r s) = iblk m c 4 t (ix2 s ⟨r.val, by omega⟩)) (y : S32x2048.Idx) :
    (outsAt0 m c t).1 (y) = GH (iblk m c 0 t) (iblk m c 1 t) (iblk m c 2 t) (iblk m c 3 t) (iblk m c 4 t) (iblk m c 6 t) (iblk m c 7 t) (iblk m c 8 t) y := by
  unfold outsAt0 out0_A_9
  frame_out
  simp (disch := decide) only [↓ View.readCov_skip, ↓ View.readCov_cons_toLoadRect, ↓ View.readCov_fill]
  generalize iblk m c 0 t = x0, iblk m c 1 t = x1, iblk m c 2 t = x2, iblk m c 3 t = x3, iblk m c 4 t = x4, iblk m c 5 t = x5, iblk m c 6 t = x6, iblk m c 7 t = x7, iblk m c 8 t = x8 at *
  change Vec Ideal S32x2048 .bf16 at x0
  change Vec Ideal S32x2048 .bf16 at x1
  change Vec Ideal S32x2048 .bf16 at x2
  change Vec Ideal S32x2048 .bf16 at x3
  change Vec Ideal S32x128 .f32 at x4
  change Vec Ideal S1x16x32 .f32 at x5
  change Vec Ideal S1x8x256x256 .f32 at x6
  change Vec Ideal S1x8x1x256 .f32 at x7
  change Vec Ideal S1x8x1x1 .f32 at x8
  refine (View.canon_append_of_piecesOf (GH x0 x1 x2 x3 x4 x6 x7 x8) [] [_, _, _, _, _, _, _, _]
    ⟨fun x => ?_, fun x => ?_, fun x => ?_, fun x => ?_, fun x => ?_, fun x => ?_, fun x => ?_, fun x => ?_, trivial⟩ _ ?_).trans ?_
  rotate_left 8
  · exact View.cover_of_tiledL _ ![32, 256] (by sl_kernel_rfl) _
  · rfl
  on_goal 1 => refine via x (piece_h x0 x1 x2 x3 x4 x5 x6 x7 x8 hg 7 x _ (by simp) (by simp)) ?_
  on_goal 2 => refine via x (piece_h x0 x1 x2 x3 x4 x5 x6 x7 x8 hg 6 x _ (by simp) (by simp)) ?_
  on_goal 3 => refine via x (piece_h x0 x1 x2 x3 x4 x5 x6 x7 x8 hg 5 x _ (by simp) (by simp)) ?_
  on_goal 4 => refine via x (piece_h x0 x1 x2 x3 x4 x5 x6 x7 x8 hg 4 x _ (by simp) (by simp)) ?_
  on_goal 5 => refine via x (piece_h x0 x1 x2 x3 x4 x5 x6 x7 x8 hg 3 x _ (by simp) (by simp)) ?_
  on_goal 6 => refine via x (piece_h x0 x1 x2 x3 x4 x5 x6 x7 x8 hg 2 x _ (by simp) (by simp)) ?_
  on_goal 7 => refine via x (piece_h x0 x1 x2 x3 x4 x5 x6 x7 x8 hg 1 x _ (by simp) (by simp)) ?_
  on_goal 8 => refine via x (piece_h x0 x1 x2 x3 x4 x5 x6 x7 x8 hg 0 x _ (by simp) (by simp)) ?_
  all_goals
    dsimp only [k0_pay4, k0_pay5, k0_pay6, k0_pay7, k0_pay8, k0_pay9, k0_pay10, k0_pay11, k0_pay12, k0_pay13, k0_pay14, k0_pay15, k0_pay16, k0_pay17,
        k0_pay18, k0_pay19, k0_pay20, k0_pay21, k0_pay22, k0_pay23, k0_pay24, k0_pay25, k0_pay26, k0_pay27, k0_pay28, k0_pay29, k0_pay30, k0_pay31,
        k0_pay32, k0_pay33, k0_pay34, k0_pay35, k0_pay36, k0_pay37, k0_pay38, k0_pay39, k0_pay40, k0_pay41, k0_pay42, k0_pay43, k0_pay44, k0_pay45,
        k0_pay46, k0_pay47, k0_pay48, k0_pay49, k0_pay50, k0_pay51, k0_pay52, k0_pay53, k0_pay54, k0_pay55, k0_pay56, k0_pay57, k0_pay58, k0_pay59,
        k0_pay60, k0_pay61, k0_pay62, k0_pay63, k0_pay64, k0_pay65, k0_pay66, k0_pay67, k0_pay68, k0_pay69, k0_pay70, k0_pay71, k0_pay72, k0_pay73,
        k0_pay74, k0_pay75, k0_pay76, k0_pay77, k0_pay78, k0_pay79, k0_pay80, k0_pay81, k0_pay82, k0_pay83, k0_pay84, k0_pay85, k0_pay86, k0_pay87,
        k0_pay88, k0_pay89, k0_pay90, k0_pay91, k0_pay92, k0_pay93, k0_pay94, k0_pay95, k0_pay96, k0_pay97, k0_pay98, k0_pay99, k0_pay100,
        k0_pay101, k0_pay102, k0_pay103, k0_pay104, k0_pay105, k0_pay106, k0_pay107, k0_pay108, k0_pay109, k0_pay110, k0_pay111, k0_pay112,
        k0_pay113, k0_pay114, k0_pay115, k0_pay116, k0_pay117, k0_pay118, k0_pay119, k0_pay120, k0_pay121, k0_pay122, k0_pay123, k0_pay124,
        k0_pay125, k0_pay126, k0_pay127, k0_pay128, k0_pay129, k0_pay130, k0_pay131, k0_pay132, k0_pay133, k0_pay134, k0_pay135, k0_pay136,
        k0_pay137, k0_pay138, k0_pay139, k0_pay140, k0_pay141, k0_pay142, k0_pay143, k0_pay144, k0_pay145, k0_pay146, k0_pay147, k0_pay148,
        k0_pay149, k0_pay150, k0_pay151, k0_pay152, k0_pay153, k0_pay154, k0_pay155, k0_pay156, k0_pay157, k0_pay158, k0_pay159, k0_pay160,
        k0_pay161, k0_pay162, k0_pay163, k0_pay164, k0_pay165, k0_pay166, k0_pay167, k0_pay168, k0_pay169, k0_pay170, k0_pay171, k0_pay172,
        k0_pay173, k0_pay174, k0_pay175, k0_pay176, k0_pay177, k0_pay178, k0_pay179, k0_pay180, k0_pay181, k0_pay182, k0_pay183, k0_pay184,
        k0_pay185, k0_pay186, k0_pay187, k0_pay188, k0_pay189, k0_pay190, k0_pay191, k0_pay192, k0_pay193, k0_pay194, k0_pay195, k0_pay196,
        k0_pay197, k0_pay198, k0_pay199, k0_pay200, k0_pay201, k0_pay202, k0_pay203, k0_pay204, k0_pay205, k0_pay206, k0_pay207, k0_pay208,
        k0_pay209, k0_pay210, k0_pay211, mask, maskT, lsg, fcol, frow, dmat, inter, mrow, ks, arow, wmat, num, den, hout, mlast, wend, decay, cout,
        nout, mout, gcol, grow, cols, mrd, nrd, crd]
    try dsimp only [Fin.coe_ofNat_eq_mod, Nat.reduceMod, Nat.reduceAdd, Nat.reduceMul, Fin.isValue]
    try rfl

end Cert.KernelIdeal.Body

end
-- ==== Proof.M.Entry.lean ====
/- The input blocks of grid point t, entry by entry: batch t's rows of the arguments. -/
module

public import proofs.«01_k».proof.Proof.M.Outs

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Spec

variable (m : (ℓ : Loc nD τ sig) → Buf (Elt Ideal) ℓ)

/-- The first projection window's block index. -/
theorem idx0 : ∀ t : Fin cfg0.N, win0_0.index t = ![t.val, 0] := (by decide +kernel : ∀ t : Fin grid0.N, _)

/-- The second projection window's block index. -/
theorem idx1 : ∀ t : Fin cfg0.N, win0_1.index t = ![t.val, 1] := (by decide +kernel : ∀ t : Fin grid0.N, _)

/-- The third projection window's block index. -/
theorem idx2 : ∀ t : Fin cfg0.N, win0_2.index t = ![t.val, 2] := (by decide +kernel : ∀ t : Fin grid0.N, _)

/-- The fourth projection window's block index. -/
theorem idx3 : ∀ t : Fin cfg0.N, win0_3.index t = ![t.val, 3] := (by decide +kernel : ∀ t : Fin grid0.N, _)

/-- The gates window's block index. -/
theorem idx4 : ∀ t : Fin cfg0.N, win0_4.index t = ![t.val, 0] := (by decide +kernel : ∀ t : Fin grid0.N, _)

/-- The transposed gates window's block index. -/
theorem idx5 : ∀ t : Fin cfg0.N, win0_5.index t = ![t.val, 0, 0] := (by decide +kernel : ∀ t : Fin grid0.N, _)

/-- The matrix-state window's block index. -/
theorem idx6 : ∀ t : Fin cfg0.N, win0_6.index t = ![t.val, 0, 0, 0] := (by decide +kernel : ∀ t : Fin grid0.N, _)

/-- The normalizer window's block index. -/
theorem idx7 : ∀ t : Fin cfg0.N, win0_7.index t = ![t.val, 0, 0, 0] := (by decide +kernel : ∀ t : Fin grid0.N, _)

/-- The stabilizer window's block index. -/
theorem idx8 : ∀ t : Fin cfg0.N, win0_8.index t = ![t.val, 0, 0, 0] := (by decide +kernel : ∀ t : Fin grid0.N, _)

/-- The grid has thirty-two points, one a batch. -/
theorem lt32 (t : Fin cfg0.N) : t.val < 32 := lt_of_lt_of_eq t.isLt N_0

/-- The queries' block. -/
theorem q_at (c : Dev nD) (t : Fin cfg0.N) (s : Fin 32) (l : Fin 2048) :
    iblk m c 0 t (ix2 s l) = m ((c : Thread nD τ).loc main_arg0) (ix3 ⟨t.val, lt32 t⟩ s ⟨l.val, by omega⟩) := by
  have := lt32 t
  change V m c main_v1 _ = _
  simp only [V, hostOps0, hostOps0_1, hostOps0_2, List.flatten_cons, List.flatten_nil, List.cons_append, List.nil_append]
  entry_read
  pointwise
  blk_point [idx0 t]

/-- The keys' block. -/
theorem k_at (c : Dev nD) (t : Fin cfg0.N) (s : Fin 32) (l : Fin 2048) :
    iblk m c 1 t (ix2 s l) = m ((c : Thread nD τ).loc main_arg0) (ix3 ⟨t.val, lt32 t⟩ s ⟨2048 + l.val, by omega⟩) := by
  have := lt32 t
  change V m c main_v1 _ = _
  simp only [V, hostOps0, hostOps0_1, hostOps0_2, List.flatten_cons, List.flatten_nil, List.cons_append, List.nil_append]
  entry_read
  pointwise
  blk_point [idx1 t]

/-- The values' block. -/
theorem v_at (c : Dev nD) (t : Fin cfg0.N) (s : Fin 32) (l : Fin 2048) :
    iblk m c 2 t (ix2 s l) = m ((c : Thread nD τ).loc main_arg0) (ix3 ⟨t.val, lt32 t⟩ s ⟨4096 + l.val, by omega⟩) := by
  have := lt32 t
  change V m c main_v1 _ = _
  simp only [V, hostOps0, hostOps0_1, hostOps0_2, List.flatten_cons, List.flatten_nil, List.cons_append, List.nil_append]
  entry_read
  pointwise
  blk_point [idx2 t]

/-- The output gates' block. -/
theorem o_at (c : Dev nD) (t : Fin cfg0.N) (s : Fin 32) (l : Fin 2048) :
    iblk m c 3 t (ix2 s l) = m ((c : Thread nD τ).loc main_arg0) (ix3 ⟨t.val, lt32 t⟩ s ⟨6144 + l.val, by omega⟩) := by
  have := lt32 t
  change V m c main_v1 _ = _
  simp only [V, hostOps0, hostOps0_1, hostOps0_2, List.flatten_cons, List.flatten_nil, List.cons_append, List.nil_append]
  entry_read
  pointwise
  blk_point [idx3 t]

/-- The gates with their lanes padded by zeros. -/
def gpad (g : Vec Ideal S32x32x16 .f32) : Vec Ideal S1024x128 .f32 :=
  pad S1024x128 ![0, 0] ![0, 112] ![0, 0] (shapeCast S1024x16 g shapeCasts_S32x32x16_S1024x16) (sitofp (F := Ideal) .f32 (constantI S_ 32 0#32))
    pads_S1024x16_S1024x128_000_01120 h_S_

/-- The padded gates on the lanes that hold gates. -/
theorem gpad_at (g : Vec Ideal S32x32x16 .f32) (b s : Fin 32) (r : Fin 16) : gpad g (ix2 ⟨32 * b.val + s.val, by omega⟩ ⟨r.val, by omega⟩) = g (ix3 b s r) := by
  pointwise [gpad]
  exact dif_pos (by omega)

/-- The gates operand is the padded gates. -/
theorem V3 (c : Dev nD) : V m c main_v3 = gpad (m ((c : Thread nD τ).loc main_arg1)) := by
  simp only [V, hostOps0, hostOps0_1, hostOps0_2, List.flatten_cons, List.flatten_nil, List.cons_append, List.nil_append]
  entry_read
  rfl

/-- The transposed gates operand, from the padded gates. -/
theorem V6 (c : Dev nD) : V m c main_v6 = transpose S32x16x32 [0, 2, 1] (shapeCast S32x32x16 (extractStridedSlice S1024x16 ![0, 0]
    (gpad (m ((c : Thread nD τ).loc main_arg1))) slices_S1024x128_S1024x16_0_0) shapeCasts_S1024x16_S32x32x16) transposes_S32x32x16_S32x16x32_0_2_1 := by
  simp only [V, hostOps0, hostOps0_1, hostOps0_2, List.flatten_cons, List.flatten_nil, List.cons_append, List.nil_append]
  entry_read
  rfl

/-- The gates' block, on the lanes that hold gates. -/
theorem g_at (c : Dev nD) (t : Fin cfg0.N) (s : Fin 32) (r : Fin 16) :
    iblk m c 4 t (ix2 s ⟨r.val, by omega⟩) = m ((c : Thread nD τ).loc main_arg1) (ix3 ⟨t.val, lt32 t⟩ s r) := by
  have := lt32 t
  change V m c main_v3 _ = _
  rw [V3]
  refine Eq.trans ?_ (gpad_at (m ((c : Thread nD τ).loc main_arg1)) ⟨t.val, lt32 t⟩ s r)
  generalize gpad (m ((c : Thread nD τ).loc main_arg1)) = P
  blk_point [idx4 t]

/-- The transposed gates' block. -/
theorem gr_at (c : Dev nD) (t : Fin cfg0.N) (r : Fin 16) (s : Fin 32) :
    iblk m c 5 t (ix3 0 r s) = m ((c : Thread nD τ).loc main_arg1) (ix3 ⟨t.val, lt32 t⟩ s r) := by
  have := lt32 t
  change V m c main_v6 _ = _
  rw [V6]
  refine Eq.trans ?_ (gpad_at (m ((c : Thread nD τ).loc main_arg1)) ⟨t.val, lt32 t⟩ s r)
  generalize gpad (m ((c : Thread nD τ).loc main_arg1)) = P
  pointwise
  blk_point [idx5 t]

/-- The matrix states' block. -/
theorem c0_at (c : Dev nD) (t : Fin cfg0.N) (h : Fin 8) (e d : Fin 256) :
    iblk m c 6 t (ix4 0 h e d) = m ((c : Thread nD τ).loc main_arg2) (ix4 ⟨t.val, lt32 t⟩ h e d) := by
  have := lt32 t
  unfold iblk
  entry_read
  blk_point [idx6 t]

/-- The normalizers' block. -/
theorem n0_at (c : Dev nD) (t : Fin cfg0.N) (h : Fin 8) (d : Fin 256) :
    iblk m c 7 t (ix4 0 h 0 d) = m ((c : Thread nD τ).loc main_arg3) (ix3 ⟨t.val, lt32 t⟩ h d) := by
  have := lt32 t
  change V m c main_v7 _ = _
  simp only [V, hostOps0, hostOps0_1, hostOps0_2, List.flatten_cons, List.flatten_nil, List.cons_append, List.nil_append]
  entry_read
  pointwise
  blk_point [idx7 t]

/-- The stabilizers' block. -/
theorem m0_at (c : Dev nD) (t : Fin cfg0.N) (h : Fin 8) :
    iblk m c 8 t (ix4 0 h 0 0) = m ((c : Thread nD τ).loc main_arg4) (ix2 ⟨t.val, lt32 t⟩ h) := by
  have := lt32 t
  change V m c main_v8 _ = _
  simp only [V, hostOps0, hostOps0_1, hostOps0_2, List.flatten_cons, List.flatten_nil, List.cons_append, List.nil_append]
  entry_read
  pointwise
  blk_point [idx8 t]

end Cert.KernelIdeal.Body

end
-- ==== Proof.M.Ref.lean ====
/- The reference's composed terms, cut into named stages over the five arguments. -/
module

public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen

variable {F : FTy → Type} [FloatOps F]

/-- A vector of zeros of the gates' shape. -/
def zz : FVec F S32x32x8 .f32 :=
  broadcastInDim S32x32x8 ![] bcast_S_S32x32x8 (constant S_ .f32 0x00000000#32)

/-- A vector of ones of the output gates' shape. -/
def one : FVec F S32x32x2048 .f32 :=
  broadcastInDim S32x32x2048 ![] bcast_S_S32x32x2048 (constant S_ .f32 0x3F800000#32)

/-- The negated forget gates. -/
def nf (G : FVec F S32x32x16 .f32) : FVec F S32x32x8 .f32 :=
  Host.negf (extractStridedSlice S32x32x8 ![0, 0, 8] G slices_S32x32x16_S32x32x8_0_0_8)

/-- The input gates, head by head. -/
def ig (G : FVec F S32x32x16 .f32) : FVec F S32x8x32 .f32 :=
  transpose S32x8x32 [0, 2, 1] (extractStridedSlice S32x32x8 ![0, 0, 0] G slices_S32x32x16_S32x32x8_0_0_0) transposes_S32x32x8_S32x8x32_0_2_1

/-- The argument of the softplus less zero. -/
def df (G : FVec F S32x32x16 .f32) : FVec F S32x32x8 .f32 :=
  subf (nf G) (zz (F := F))

/-- The queries, head by head. -/
def q (X : FVec F S32x32x8192 .f32) : FVec F S32x8x32x256 .f32 :=
  transpose S32x8x32x256 [0, 2, 1, 3] (shapeCast _ (extractStridedSlice S32x32x2048 ![0, 0, 0] X slices_S32x32x8192_S32x32x2048_0_0_0) shapeCasts_S32x32x2048_S32x32x8x256) transposes_S32x32x8x256_S32x8x32x256_0_2_1_3

/-- The values, head by head. -/
def v (X : FVec F S32x32x8192 .f32) : FVec F S32x8x32x256 .f32 :=
  transpose S32x8x32x256 [0, 2, 1, 3] (shapeCast _ (extractStridedSlice S32x32x2048 ![0, 0, 4096] X slices_S32x32x8192_S32x32x2048_0_0_4096) shapeCasts_S32x32x2048_S32x32x8x256) transposes_S32x32x8x256_S32x8x32x256_0_2_1_3

/-- The scaled keys, head by head. -/
def k (X : FVec F S32x32x8192 .f32) : FVec F S32x8x32x256 .f32 :=
  transpose S32x8x32x256 [0, 2, 1, 3] (mulf (shapeCast _ (extractStridedSlice S32x32x2048 ![0, 0, 2048] X slices_S32x32x8192_S32x32x2048_0_0_2048) shapeCasts_S32x32x2048_S32x32x8x256) (broadcastInDim S32x32x8x256 ![] bcast_S_S32x32x8x256 (constant S_ .f32 0x3D800000#32))) transposes_S32x32x8x256_S32x8x32x256_0_2_1_3

/-- The running sum of the log forget gates. -/
def fsum (G : FVec F S32x32x16 .f32) : FVec F S32x8x32 .f32 :=
  Host.reduceWindowAdd ![1, 1, 32] ![1, 1, 1] ![0, 0, 31] ![0, 0, 0] (transpose S32x8x32 [0, 2, 1] (Host.negf (select (cmpf .une (df G) (df G)) (addf (nf G) (zz (F := F))) (addf (maximumf (nf G) (zz (F := F))) (Host.log1p (Host.exp (Host.negf (Host.absf (df G)))))))) transposes_S32x32x8_S32x8x32_0_2_1) (broadcastInDim S_ ![] bcast_S_S_ (constant S_ .f32 0x00000000#32)) reduceWindows_S32x8x32_S32x8x32_w1s1p0_0_w1s1p0_0_w32s1p31_0 h_S_

/-- The log weight of the carried state. -/
def inter (G : FVec F S32x32x16 .f32) (M0 : FVec F S32x8 .f32) : FVec F S32x8x32 .f32 :=
  addf (fsum G) (broadcastInDim S32x8x32 ![0, 1, 2] bcast_S32x8x1_S32x8x32_0_1_2 (broadcastInDim S32x8x1 ![0, 1] bcast_S32x8_S32x8x1_0_1 M0))

/-- The masked log weights of the block's own pairs. -/
def dmat (G : FVec F S32x32x16 .f32) : FVec F S32x8x32x32 .f32 :=
  select (broadcastInDim S32x8x32x32 ![2, 3] bcast_S32x32_S32x8x32x32_2_3 (select (cmpi .sge (addi (iotaInDim S32x32 32 0) (broadcastInDim S32x32 ![] bcast_S_S32x32 (constantI S_ 32 0#32))) (iotaInDim S32x32 32 1)) (broadcastInDim S32x32 ![] bcast_S_S32x32 (constantI S_ 1 1#1)) (broadcastInDim S32x32 ![] bcast_S_S32x32 (constantI S_ 1 0#1)))) (addf (subf (broadcastInDim S32x8x32x32 ![0, 1, 2, 3] bcast_S32x8x32x1_S32x8x32x32_0_1_2_3 (broadcastInDim S32x8x32x1 ![0, 1, 2] bcast_S32x8x32_S32x8x32x1_0_1_2 (fsum G))) (broadcastInDim S32x8x32x32 ![0, 1, 2, 3] bcast_S32x8x1x32_S32x8x32x32_0_1_2_3 (broadcastInDim S32x8x1x32 ![0, 1, 3] bcast_S32x8x32_S32x8x1x32_0_1_3 (fsum G)))) (broadcastInDim S32x8x32x32 ![0, 1, 2, 3] bcast_S32x8x1x32_S32x8x32x32_0_1_2_3 (broadcastInDim S32x8x1x32 ![0, 1, 3] bcast_S32x8x32_S32x8x1x32_0_1_3 (ig G)))) (broadcastInDim S32x8x32x32 ![] bcast_S_S32x8x32x32 (id (constant S_ .f32 0xFF800000#32)))

/-- The running maximum. -/
def mrow (G : FVec F S32x32x16 .f32) (M0 : FVec F S32x8 .f32) : FVec F S32x8x32 .f32 :=
  maximumf (inter G M0) (Host.reduce FloatOps.maximumf (dmat G) (constant S_ .f32 0xFF800000#32) reducesTo_S32x8x32x32_S32x8x32_d3 h_S_)

/-- The last running maximum. -/
def mlast (G : FVec F S32x32x16 .f32) (M0 : FVec F S32x8 .f32) : FVec F S32x8 .f32 :=
  shapeCast _ (extractStridedSlice S32x8x1 ![0, 0, 31] (mrow G M0) slices_S32x8x32_S32x8x1_0_0_31) shapeCasts_S32x8x1_S32x8

/-- The weights of the carried state. -/
def arow (G : FVec F S32x32x16 .f32) (M0 : FVec F S32x8 .f32) : FVec F S32x8x32 .f32 :=
  Host.exp (subf (inter G M0) (mrow G M0))

/-- The weight the carried state enters the new state with. -/
def decay (G : FVec F S32x32x16 .f32) (M0 : FVec F S32x8 .f32) : FVec F S32x8 .f32 :=
  Host.exp (subf (shapeCast _ (extractStridedSlice S32x8x1 ![0, 0, 31] (inter G M0) slices_S32x8x32_S32x8x1_0_0_31) shapeCasts_S32x8x1_S32x8) (mlast G M0))

/-- The weight each position enters the new state with. -/
def wend (G : FVec F S32x32x16 .f32) (M0 : FVec F S32x8 .f32) : FVec F S32x8x32 .f32 :=
  Host.exp (subf (addf (subf (broadcastInDim S32x8x32 ![0, 1, 2] bcast_S32x8x1_S32x8x32_0_1_2 (extractStridedSlice S32x8x1 ![0, 0, 31] (fsum G) slices_S32x8x32_S32x8x1_0_0_31)) (fsum G)) (ig G)) (broadcastInDim S32x8x32 ![0, 1, 2] bcast_S32x8x1_S32x8x32_0_1_2 (broadcastInDim S32x8x1 ![0, 1] bcast_S32x8_S32x8x1_0_1 (mlast G M0))))

/-- The weighted scores. -/
def wmat (X : FVec F S32x32x8192 .f32) (G : FVec F S32x32x16 .f32) (M0 : FVec F S32x8 .f32) : FVec F S32x8x32x32 .f32 :=
  mulf (Host.exp (subf (dmat G) (broadcastInDim S32x8x32x32 ![0, 1, 2, 3] bcast_S32x8x32x1_S32x8x32x32_0_1_2_3 (broadcastInDim S32x8x32x1 ![0, 1, 2] bcast_S32x8x32_S32x8x32x1_0_1_2 (mrow G M0))))) (Host.dotGeneral dot_S32x8x32x256_S32x8x32x256_S32x8x32x32_3_3_2_2_01_01 none (q X) (k X))

/-- The gated result. -/
def hs (X : FVec F S32x32x8192 .f32) (G : FVec F S32x32x16 .f32) (C0 : FVec F S32x8x256x256 .f32) (N0 : FVec F S32x8x256 .f32) (M0 : FVec F S32x8 .f32) : FVec F S1024x2048 .bf16 :=
  shapeCast _ (truncf .bf16 (mulf (Host.divf (one (F := F)) (addf (one (F := F)) (Host.exp (Host.negf (extractStridedSlice S32x32x2048 ![0, 0, 6144] X slices_S32x32x8192_S32x32x2048_0_0_6144))))) (shapeCast _ (transpose S32x32x8x256 [0, 2, 1, 3] (Host.divf (addf (mulf (broadcastInDim S32x8x32x256 ![0, 1, 2, 3] bcast_S32x8x32x1_S32x8x32x256_0_1_2_3 (broadcastInDim S32x8x32x1 ![0, 1, 2] bcast_S32x8x32_S32x8x32x1_0_1_2 (arow G M0))) (Host.dotGeneral dot_S32x8x32x256_S32x8x256x256_S32x8x32x256_3_3_2_2_01_01 none (q X) C0)) (Host.dotGeneral dot_S32x8x32x32_S32x8x32x256_S32x8x32x256_3_2_2_3_01_01 none (wmat X G M0) (v X))) (broadcastInDim S32x8x32x256 ![0, 1, 2, 3] bcast_S32x8x32x1_S32x8x32x256_0_1_2_3 (broadcastInDim S32x8x32x1 ![0, 1, 2] bcast_S32x8x32_S32x8x32x1_0_1_2 (maximumf (Host.absf (addf (mulf (arow G M0) (Host.dotGeneral dot_S32x8x256_S32x8x32x256_S32x8x32_2_3_n_2_01_01 none N0 (q X))) (Host.reduceAdd (wmat X G M0) (constant S_ .f32 0x00000000#32) reducesTo_S32x8x32x32_S32x8x32_d3 h_S_))) (Host.exp (Host.negf (mrow G M0))))))) transposes_S32x8x32x256_S32x32x8x256_0_2_1_3) shapeCasts_S32x32x8x256_S32x32x2048)) bitsLt_bf16_f32) shapeCasts_S32x32x2048_S1024x2048

/-- The new matrix state. -/
def c1 (X : FVec F S32x32x8192 .f32) (G : FVec F S32x32x16 .f32) (C0 : FVec F S32x8x256x256 .f32) (M0 : FVec F S32x8 .f32) : FVec F S32x8x256x256 .f32 :=
  addf (mulf (broadcastInDim S32x8x256x256 ![0, 1, 2, 3] bcast_S32x8x1x1_S32x8x256x256_0_1_2_3 (broadcastInDim S32x8x1x1 ![0, 1] bcast_S32x8_S32x8x1x1_0_1 (decay G M0))) C0) (Host.dotGeneral dot_S32x8x32x256_S32x8x32x256_S32x8x256x256_2_2_3_3_01_01 none (mulf (broadcastInDim S32x8x32x256 ![0, 1, 2, 3] bcast_S32x8x32x1_S32x8x32x256_0_1_2_3 (broadcastInDim S32x8x32x1 ![0, 1, 2] bcast_S32x8x32_S32x8x32x1_0_1_2 (wend G M0))) (v X)) (k X))

/-- The new normalizer state. -/
def n1 (X : FVec F S32x32x8192 .f32) (G : FVec F S32x32x16 .f32) (N0 : FVec F S32x8x256 .f32) (M0 : FVec F S32x8 .f32) : FVec F S32x8x1x256 .f32 :=
  shapeCast _ (addf (mulf (broadcastInDim S32x8x256 ![0, 1, 2] bcast_S32x8x1_S32x8x256_0_1_2 (broadcastInDim S32x8x1 ![0, 1] bcast_S32x8_S32x8x1_0_1 (decay G M0))) N0) (Host.dotGeneral dot_S32x8x32_S32x8x32x256_S32x8x256_2_2_n_3_01_01 none (wend G M0) (k X))) shapeCasts_S32x8x256_S32x8x1x256

/-- The new stabilizer state. -/
def m1 (G : FVec F S32x32x16 .f32) (M0 : FVec F S32x8 .f32) : FVec F S32x8x1x1 .f32 :=
  shapeCast _ (mlast G M0) shapeCasts_S32x8_S32x8x1x1

variable (m : (ℓ : Loc nD τ sig) → Buf (Elt F) ℓ) (c : Dev nD)

/-- The reference's result hs is the last stage of its arguments. -/
theorem res_hs : Value.res_main_v96 m c = hs (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

/-- The reference's result c1 is the last stage of its arguments. -/
theorem res_c1 : Value.res_main_v80 m c = c1 (m ((c.tc : Thread nD τ).loc main_arg0)) (m ((c.tc : Thread nD τ).loc main_arg1)) (m ((c.tc : Thread nD τ).loc main_arg2)) (m ((c.tc : Thread nD τ).loc main_arg4)) := rfl

/-- The reference's result n1 is the last stage of its arguments. -/
theorem res_n1 : Value.res_main_v97 m c = n1 (m ((c.tc : Thread nD τ).loc main_arg0)) (m ((c.tc : Thread nD τ).loc main_arg1)) (m ((c.tc : Thread nD τ).loc main_arg3)) (m ((c.tc : Thread nD τ).loc main_arg4)) := rfl

/-- The reference's result m1 is the last stage of its arguments. -/
theorem res_m1 : Value.res_main_v98 m c = m1 (m ((c.tc : Thread nD τ).loc main_arg1)) (m ((c.tc : Thread nD τ).loc main_arg4)) := rfl

end Cert.ReferenceIdeal.Stage

end
-- ==== Proof.M.Cumsum.lean ====
/- The reference's running sum along the last axis, read at an index: the sum of the entries up to that position. -/
module

public import proofs.«01_k».proof.Proof.Gen.ReferenceIdeal.Run
public import Idealize.ShloMosaic.Lib.Pointwise

@[expose] public section

set_option maxRecDepth 16384

noncomputable section

open Idealize.ShloMosaic Idealize.ShloMosaic.TcCoe Idealize.SL.Sem

namespace Cert.ReferenceIdeal.Value

open Cert.ReferenceIdeal Cert.ReferenceIdeal.Gen

/-- A left fold that adds one term per entry is the sum of the terms. -/
theorem foldl_add_sum {N : Nat} (g : Fin N → EReal) : (List.finRange N).foldl (fun r n => r + g n) 0 = ∑ n, g n := by
  rw [← List.sum_ofFn, List.ofFn_eq_map, List.sum_eq_foldl, List.foldl_map]

/-- Among window positions k with t + k ≥ 31, the entry t + k - 31 runs through the positions up to t. -/
theorem sum_shift (f : Fin 32 → EReal) (t : Fin 32) :
    (∑ k : Fin 32, if h : 31 ≤ t.val + k.val then f ⟨t.val + k.val - 31, by omega⟩ else 0) = ∑ s : Fin 32, if s ≤ t then f s else 0 := by
  have e : ∀ k : Fin 32, (if h : 31 ≤ t.val + k.val then f ⟨t.val + k.val - 31, by omega⟩ else 0)
      = if 31 ≤ t.val + k.val then f ⟨t.val + k.val - 31, by omega⟩ else 0 := fun k => by split <;> rfl
  rw [Finset.sum_congr rfl fun k _ => e k, ← Finset.sum_filter, ← Finset.sum_filter]
  refine Finset.sum_bij' (fun k _ => ⟨t.val + k.val - 31, by omega⟩) (fun s _ => ⟨(s.val + 31 - t.val) % 32, by omega⟩) ?_ ?_ ?_ ?_ ?_
  · intro k hk; simp only [Finset.mem_filter, Finset.mem_univ, true_and] at hk ⊢; rw [Fin.le_def]; dsimp only; omega
  · intro s hs; simp only [Finset.mem_filter, Finset.mem_univ, true_and] at hs ⊢; rw [Fin.le_def] at hs; omega
  · intro k hk; simp only [Finset.mem_filter, Finset.mem_univ, true_and] at hk; apply Fin.ext; dsimp only; omega
  · intro s hs; simp only [Finset.mem_filter, Finset.mem_univ, true_and] at hs; rw [Fin.le_def] at hs; apply Fin.ext; dsimp only; omega
  · intro k hk; rfl

/-- The running sum along the last axis at position t is the sum of the entries at the positions up to t. -/
theorem cumsum_at (x : FVec Ideal S32x8x32 .f32) (h : S32x8x32.ReduceWindows ![1, 1, 32] ![1, 1, 1] ![0, 0, 31] ![0, 0, 0] S32x8x32)
    (hu : 0 < S_.numel) (b : Fin 32) (g : Fin 8) (t : Fin 32) :
    Host.reduceWindowAdd (F := Ideal) (φ := .f32) ![1, 1, 32] ![1, 1, 1] ![0, 0, 31] ![0, 0, 0] x (broadcastInDim S_ ![] bcast_S_S_ (constant S_ .f32 0x00000000#32)) h hu (ix3 b g t)
      = ∑ s : Fin 32, if s ≤ t then x (ix3 b g s) else 0 := by
  refine Eq.trans ?_ (sum_shift (fun s => x (ix3 b g s)) t)
  have hz : (broadcastInDim S_ ![] bcast_S_S_ (constant S_ .f32 0x00000000#32) : FVec Ideal S_ .f32) (Shape.Idx.first hu) = (0 : EReal) := by
    pointwise
  show Idealize.ShloMosaic.Ideal.hostReduceWindowAdd _ _ _ _ h x _ (ix3 b g t) = _
  rw [hz]
  unfold Idealize.ShloMosaic.Ideal.hostReduceWindowAdd Host.reduceWindow
  dsimp only
  refine (foldl_add_sum _).trans ?_
  refine (Finset.sum_congr rfl fun n _ => ?_).trans ((Equiv.sum_comp (Shape.rowMajor ⟨3, ![1, 1, 32]⟩).symm (fun w : (⟨3, ![1, 1, 32]⟩ : Shape).Idx =>
    if hin : ∀ a : Fin 3, (![0, 0, 31] : Fin 3 → Nat) a ≤ ((ix3 b g t : S32x8x32.Idx) a).val * (![1, 1, 1] : Fin 3 → Nat) a + (w a).val ∧ ((ix3 b g t : S32x8x32.Idx) a).val * (![1, 1, 1] : Fin 3 → Nat) a + (w a).val - (![0, 0, 31] : Fin 3 → Nat) a < S32x8x32.size a
    then x (fun a => ⟨((ix3 b g t : S32x8x32.Idx) a).val * (![1, 1, 1] : Fin 3 → Nat) a + (w a).val - (![0, 0, 31] : Fin 3 → Nat) a, (hin a).2⟩) else 0)).trans ?_)
  · congr
  rw [sum_idx3, Fin.sum_univ_one, Fin.sum_univ_one]
  refine Finset.sum_congr rfl fun k _ => ?_
  have hk := k.isLt
  have ht := t.isLt
  by_cases hh : 31 ≤ t.val + k.val
  · rw [dif_pos hh, dif_pos]
    · refine congrArg x (funext fun a => Fin.ext ?_)
      fin_cases a
      · show b.val * 1 + 0 - 0 = b.val; omega
      · show g.val * 1 + 0 - 0 = g.val; omega
      · show t.val * 1 + k.val - 31 = t.val + k.val - 31; omega
    · intro a
      fin_cases a
      · show 0 ≤ b.val * 1 + 0 ∧ b.val * 1 + 0 - 0 < 32; omega
      · show 0 ≤ g.val * 1 + 0 ∧ g.val * 1 + 0 - 0 < 8; omega
      · show 31 ≤ t.val * 1 + k.val ∧ t.val * 1 + k.val - 31 < 32; omega
  · rw [dif_neg hh, dif_neg]
    intro hin
    have h2 : 31 ≤ t.val * 1 + k.val ∧ _ := hin 2
    omega

end Cert.ReferenceIdeal.Value

end
-- ==== Proof.M.RefVal.lean ====
/- The reference's stages over the extended reals, read at an index: the scalar sums of Spec. -/
module

public import proofs.«01_k».proof.Proof.M.Ref
public import proofs.«01_k».proof.Proof.M.Cumsum
public import proofs.«01_k».proof.Proof.M.Spec

@[expose] public section

set_option maxRecDepth 16384

noncomputable section

open Idealize.ShloMosaic Idealize.ShloMosaic.TcCoe Idealize.SL.Sem

namespace Cert.ReferenceIdeal.Stage

open Cert.ReferenceIdeal Cert.ReferenceIdeal.Gen Cert.Spec

variable (X : FVec Ideal S32x32x8192 .f32) (G : FVec Ideal S32x32x16 .f32) (C0 : FVec Ideal S32x8x256x256 .f32) (N0 : FVec Ideal S32x8x256 .f32)
  (M0 : FVec Ideal S32x8 .f32)

/-- Part p of the projection (queries, keys, values, output gates) of sequence b and head h. -/
abbrev part (p : Fin 4) (b : Fin 32) (h : Fin 8) : Fin 32 → Fin 256 → EReal :=
  fun t d => X (ix3 b t ⟨2048 * p.val + (256 * h.val + d.val), by omega⟩)

/-- The input gates of sequence b and head h. -/
abbrev gi (b : Fin 32) (h : Fin 8) : Fin 32 → EReal := fun t => G (ix3 b t ⟨h.val, by omega⟩)

/-- The forget gates of sequence b and head h. -/
abbrev gf (b : Fin 32) (h : Fin 8) : Fin 32 → EReal := fun t => G (ix3 b t ⟨8 + h.val, by omega⟩)

/-- The running sum of the log forget gates. -/
theorem fsum_at (b : Fin 32) (h : Fin 8) (t : Fin 32) : fsum G (ix3 b h t) = fs (gf G b h) t := by
  unfold fsum
  refine (Cert.ReferenceIdeal.Value.cumsum_at _ _ _ b h t).trans (Finset.sum_congr rfl fun s _ => ?_)
  congr 1
  pointwise [nf, zz, df]
  simp only [ne_eq, not_true_eq_false, if_false, ls, ab]

/-- The masked log weights. -/
theorem dmat_at (b : Fin 32) (h : Fin 8) (t s : Fin 32) : dmat G (ix4 b h t s) = dm (gi G b h) (gf G b h) t s := by
  pointwise [dmat, ig]
  rw [select_tril, fsum_at, fsum_at]
  rfl

/-- The log weight of the carried state. -/
theorem inter_at (b : Fin 32) (h : Fin 8) (t : Fin 32) : inter G M0 (ix3 b h t) = fs (gf G b h) t + M0 (ix2 b h) := by
  pointwise [inter]
  rw [fsum_at]

/-- The running maximum. -/
theorem mrow_at (b : Fin 32) (h : Fin 8) (t : Fin 32) : mrow G M0 (ix3 b h t) = mr (gi G b h) (gf G b h) (M0 (ix2 b h)) t := by
  pointwise [mrow]
  rw [inter_at]
  simp only [dmat_at]
  rfl

/-- The weight of the carried state. -/
theorem arow_at (b : Fin 32) (h : Fin 8) (t : Fin 32) : arow G M0 (ix3 b h t) = ar (gi G b h) (gf G b h) (M0 (ix2 b h)) t := by
  pointwise [arow]
  rw [inter_at, mrow_at]
  rfl

/-- The queries. -/
theorem q_at (b : Fin 32) (h : Fin 8) (t : Fin 32) (d : Fin 256) : q X (ix4 b h t d) = part X 0 b h t d := by
  pointwise [q]
  exact congrArg X (congrArg (ix3 b t) (Fin.ext (by simp; omega)))

/-- The scaled keys. -/
theorem k_at (b : Fin 32) (h : Fin 8) (t : Fin 32) (d : Fin 256) : k X (ix4 b h t d) = part X 1 b h t d * scale := by
  pointwise [k]
  rw [scale_f32]
  exact congrArg (· * scale) (congrArg X (congrArg (ix3 b t) (Fin.ext (by simp; omega))))

/-- The values. -/
theorem v_at (b : Fin 32) (h : Fin 8) (t : Fin 32) (d : Fin 256) : v X (ix4 b h t d) = part X 2 b h t d := by
  pointwise [v]
  exact congrArg X (congrArg (ix3 b t) (Fin.ext (by simp; omega)))

/-- The weighted scores. -/
theorem wmat_at (b : Fin 32) (h : Fin 8) (t s : Fin 32) :
    wmat X G M0 (ix4 b h t s) = wm (gi G b h) (gf G b h) (M0 (ix2 b h)) (part X 0 b h) (part X 1 b h) t s := by
  pointwise [wmat]
  rw [dmat_at, mrow_at]
  simp only [q_at, k_at]
  rfl

/-- The gated result. -/
theorem hs_at (b : Fin 32) (h : Fin 8) (t : Fin 32) (d : Fin 256) :
    hs X G C0 N0 M0 (ix2 ⟨32 * b.val + t.val, by omega⟩ ⟨256 * h.val + d.val, by omega⟩)
      = hh (gi G b h) (gf G b h) (M0 (ix2 b h)) (part X 0 b h) (part X 1 b h) (part X 2 b h) (part X 3 b h) (fun e x => C0 (ix4 b h e x)) (fun x => N0 (ix3 b h x)) t d := by
  pointwise [hs, one]
  simp only [q_at, v_at, wmat_at, arow_at, mrow_at, mul_comm (N0 _)]
  rfl

/-- The last running maximum. -/
theorem mlast_at (b : Fin 32) (h : Fin 8) : mlast G M0 (ix2 b h) = mr (gi G b h) (gf G b h) (M0 (ix2 b h)) 31 := by
  pointwise [mlast]
  exact mrow_at G M0 b h 31

/-- The weight each position enters the new state with. -/
theorem wend_at (b : Fin 32) (h : Fin 8) (t : Fin 32) : wend G M0 (ix3 b h t) = we (gi G b h) (gf G b h) (M0 (ix2 b h)) t := by
  pointwise [wend, ig]
  rw [mlast_at, fsum_at, fsum_at]
  rfl

/-- The weight the carried state enters the new state with. -/
theorem decay_at (b : Fin 32) (h : Fin 8) : decay G M0 (ix2 b h) = dc (gi G b h) (gf G b h) (M0 (ix2 b h)) := by
  pointwise [decay]
  rw [mlast_at, inter_at]
  rfl

/-- The new matrix state. -/
theorem c1_at (b : Fin 32) (h : Fin 8) (e d : Fin 256) :
    c1 X G C0 M0 (ix4 b h e d) = co (gi G b h) (gf G b h) (M0 (ix2 b h)) (part X 1 b h) (part X 2 b h) (fun e x => C0 (ix4 b h e x)) e d := by
  pointwise [c1]
  simp only [decay_at, wend_at, k_at, v_at, mul_comm (we _ _ _ _) (part X 2 b h _ _)]
  rfl

/-- The new normalizer state. -/
theorem n1_at (b : Fin 32) (h : Fin 8) (d : Fin 256) :
    n1 X G N0 M0 (ix4 b h 0 d) = no (gi G b h) (gf G b h) (M0 (ix2 b h)) (part X 1 b h) (fun x => N0 (ix3 b h x)) d := by
  pointwise [n1]
  simp only [decay_at, wend_at, k_at, mul_comm (we _ _ _ _)]
  rfl

/-- The new stabilizer state. -/
theorem m1_at (b : Fin 32) (h : Fin 8) : m1 G M0 (ix4 b h 0 0) = mr (gi G b h) (gf G b h) (M0 (ix2 b h)) 31 := by
  pointwise [m1]
  exact mlast_at G M0 b h

end Cert.ReferenceIdeal.Stage

end
-- ==== Proof.M.Final.lean ====
/- The four arrays the kernel leaves, as the reference's stages of the arguments. -/
module

public import proofs.«01_k».proof.Proof.M.Entry
public import proofs.«01_k».proof.Proof.M.RefVal

@[expose] public section

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen Cert.Spec

variable (m : (ℓ : Loc nD τ sig) → Buf (Elt Ideal) ℓ)

/-- The first result's block index. -/
theorem idx9 : ∀ t : Fin cfg0.N, win0_9.index t = ![t.val, 0] := (by decide +kernel : ∀ t : Fin grid0.N, _)

/-- The matrix states' block index. -/
theorem idx10 : ∀ t : Fin cfg0.N, win0_10.index t = ![t.val, 0, 0, 0] := (by decide +kernel : ∀ t : Fin grid0.N, _)

/-- The normalizers' block index. -/
theorem idx11 : ∀ t : Fin cfg0.N, win0_11.index t = ![t.val, 0, 0, 0] := (by decide +kernel : ∀ t : Fin grid0.N, _)

/-- The stabilizers' block index. -/
theorem idx12 : ∀ t : Fin cfg0.N, win0_12.index t = ![t.val, 0, 0, 0] := (by decide +kernel : ∀ t : Fin grid0.N, _)

/-- The transposed gates block holds the gates block's own entries. -/
theorem gates_agree (c : Dev nD) (t : Fin cfg0.N) (r : Fin 16) (s : Fin 32) : iblk m c 5 t (ix3 0 r s) = iblk m c 4 t (ix2 s ⟨r.val, by omega⟩) :=
  (gr_at m c t r s).trans (g_at m c t s r).symm

/-- The batch that grid point t computes. -/
abbrev bt (t : Fin cfg0.N) : Fin 32 := ⟨t.val, lt32 t⟩

section Args

open Cert.ReferenceIdeal.Stage

/-- The first argument. -/
abbrev aX (c : Dev nD) : Vec Ideal S32x32x8192 .f32 := m ((c : Thread nD τ).loc main_arg0)

/-- The second argument. -/
abbrev aG (c : Dev nD) : Vec Ideal S32x32x16 .f32 := m ((c : Thread nD τ).loc main_arg1)

/-- The third argument. -/
abbrev aC (c : Dev nD) : Vec Ideal S32x8x256x256 .f32 := m ((c : Thread nD τ).loc main_arg2)

/-- The fourth argument. -/
abbrev aN (c : Dev nD) : Vec Ideal S32x8x256 .f32 := m ((c : Thread nD τ).loc main_arg3)

/-- The fifth argument. -/
abbrev aM (c : Dev nD) : Vec Ideal S32x8 .f32 := m ((c : Thread nD τ).loc main_arg4)

variable (c : Dev nD) (t : Fin cfg0.N) (h : Fin 8)

/-- Head h's input gates in the block are batch t's. -/
theorem bi_eq : bi (iblk m c 4 t) h = gi (aG m c) (bt t) h := funext fun s => g_at m c t s ⟨h.val, by omega⟩

/-- Head h's forget gates in the block are batch t's. -/
theorem bf_eq : bf (iblk m c 4 t) h = gf (aG m c) (bt t) h := funext fun s => g_at m c t s ⟨8 + h.val, by omega⟩

/-- Head h's queries in the block are batch t's. -/
theorem bq_eq : bm (iblk m c 0 t) h = part (aX m c) 0 (bt t) h := funext fun s => funext fun d =>
  (q_at m c t s ⟨256 * h.val + d.val, by omega⟩).trans (congrArg (fun l => aX m c (ix3 (bt t) s l)) (Fin.ext (by simp)))

/-- Head h's keys in the block are batch t's. -/
theorem bk_eq : bm (iblk m c 1 t) h = part (aX m c) 1 (bt t) h := funext fun s => funext fun d =>
  (k_at m c t s ⟨256 * h.val + d.val, by omega⟩).trans (congrArg (fun l => aX m c (ix3 (bt t) s l)) (Fin.ext (by simp)))

/-- Head h's values in the block are batch t's. -/
theorem bv_eq : bm (iblk m c 2 t) h = part (aX m c) 2 (bt t) h := funext fun s => funext fun d =>
  (v_at m c t s ⟨256 * h.val + d.val, by omega⟩).trans (congrArg (fun l => aX m c (ix3 (bt t) s l)) (Fin.ext (by simp)))

/-- Head h's output gates in the block are batch t's. -/
theorem bo_eq : bm (iblk m c 3 t) h = part (aX m c) 3 (bt t) h := funext fun s => funext fun d =>
  (o_at m c t s ⟨256 * h.val + d.val, by omega⟩).trans (congrArg (fun l => aX m c (ix3 (bt t) s l)) (Fin.ext (by simp)))

/-- Head h's carried matrix state in the block is batch t's. -/
theorem bc_eq : (fun e d => (iblk m c 6 t : Vec Ideal S1x8x256x256 .f32) (ix4 0 h e d)) = fun e d => aC m c (ix4 (bt t) h e d) :=
  funext fun e => funext fun d => c0_at m c t h e d

/-- Head h's carried normalizer in the block is batch t's. -/
theorem bn_eq : (fun d => (iblk m c 7 t : Vec Ideal S1x8x1x256 .f32) (ix4 0 h 0 d)) = fun d => aN m c (ix3 (bt t) h d) :=
  funext fun d => n0_at m c t h d

/-- The kernel's stabilizers are the reference's. -/
theorem final_m : (dats m 0 c).arrAt 12 cfg0.N = m1 (F := Ideal) (aG m c) (aM m c) := by
  refine (dats m 0 c).arrAt_eq_of_covers 12 _ (by decide +kernel) fun t hf y => ?_
  blk_simp
  rw [after0_12]
  obtain ⟨h, rfl⟩ : ∃ h : Fin 8, y = ix4 0 h 0 0 := ⟨y 1, by
    funext a
    fin_cases a
    · exact Subsingleton.elim (α := Fin 1) _ _
    · rfl
    · exact Subsingleton.elim (α := Fin 1) _ _
    · exact Subsingleton.elim (α := Fin 1) _ _⟩
  rw [outs_m m c t (gates_agree m c t) h]
  refine Eq.trans (b := m1 (F := Ideal) (aG m c) (aM m c) (ix4 (bt t) h 0 0)) ?_ ?_
  · rw [m1_at]
    exact congr (congr (congrArg₂ mr (bi_eq m c t h) (bf_eq m c t h)) (m0_at m c t h)) rfl
  · generalize m1 (F := Ideal) (aG m c) (aM m c) = P
    have := lt32 t
    blk_point [idx12 t]

/-- The kernel's normalizers are the reference's. -/
theorem final_n : (dats m 0 c).arrAt 11 cfg0.N = n1 (F := Ideal) (aX m c) (aG m c) (aN m c) (aM m c) := by
  refine (dats m 0 c).arrAt_eq_of_covers 11 _ (by decide +kernel) fun t hf y => ?_
  blk_simp
  rw [after0_11]
  obtain ⟨h, d, rfl⟩ : ∃ (h : Fin 8) (d : Fin 256), y = ix4 0 h 0 d := ⟨y 1, y 3, by
    funext a
    fin_cases a
    · exact Subsingleton.elim (α := Fin 1) _ _
    · rfl
    · exact Subsingleton.elim (α := Fin 1) _ _
    · rfl⟩
  rw [outs_n m c t (gates_agree m c t) h d]
  refine Eq.trans (b := n1 (F := Ideal) (aX m c) (aG m c) (aN m c) (aM m c) (ix4 (bt t) h 0 d)) ?_ ?_
  · rw [n1_at]
    exact congr (congr (congr (congr (congrArg₂ no (bi_eq m c t h) (bf_eq m c t h)) (m0_at m c t h)) (bk_eq m c t h)) (bn_eq m c t h)) rfl
  · generalize n1 (F := Ideal) (aX m c) (aG m c) (aN m c) (aM m c) = P
    have := lt32 t
    blk_point [idx11 t]

/-- The kernel's matrix states are the reference's. -/
theorem final_c : (dats m 0 c).arrAt 10 cfg0.N = c1 (F := Ideal) (aX m c) (aG m c) (aC m c) (aM m c) := by
  refine (dats m 0 c).arrAt_eq_of_covers 10 _ (by decide +kernel) fun t hf y => ?_
  blk_simp
  rw [after0_10]
  obtain ⟨h, e, d, rfl⟩ : ∃ (h : Fin 8) (e d : Fin 256), y = ix4 0 h e d := ⟨y 1, y 2, y 3, by
    funext a
    fin_cases a
    · exact Subsingleton.elim (α := Fin 1) _ _
    · rfl
    · rfl
    · rfl⟩
  rw [outs_c m c t (gates_agree m c t) h e d]
  refine Eq.trans (b := c1 (F := Ideal) (aX m c) (aG m c) (aC m c) (aM m c) (ix4 (bt t) h e d)) ?_ ?_
  · rw [c1_at]
    exact congr (congr (congr (congr (congr (congr (congrArg₂ co (bi_eq m c t h) (bf_eq m c t h)) (m0_at m c t h)) (bk_eq m c t h)) (bv_eq m c t h)) (bc_eq m c t h)) rfl) rfl
  · generalize c1 (F := Ideal) (aX m c) (aG m c) (aC m c) (aM m c) = P
    have := lt32 t
    blk_point [idx10 t]

/-- The kernel's gated results are the reference's. -/
theorem final_h : (dats m 0 c).arrAt 9 cfg0.N = hs (F := Ideal) (aX m c) (aG m c) (aC m c) (aN m c) (aM m c) := by
  refine (dats m 0 c).arrAt_eq_of_covers 9 _ (by decide +kernel) fun t hf y => ?_
  blk_simp
  rw [after0_9]
  obtain ⟨s, l, rfl⟩ : ∃ (s : Fin 32) (l : Fin 2048), y = ix2 s l := ⟨y 0, y 1, eq_ix2 y⟩
  obtain ⟨h, d, rfl⟩ : ∃ (h : Fin 8) (d : Fin 256), l = ⟨256 * h.val + d.val, by omega⟩ :=
    ⟨⟨l.val / 256, by omega⟩, ⟨l.val % 256, by omega⟩, Fin.ext (by dsimp only; omega)⟩
  rw [outs_h m c t (gates_agree m c t)]
  refine Eq.trans (b := hs (F := Ideal) (aX m c) (aG m c) (aC m c) (aN m c) (aM m c) (ix2 ⟨32 * (bt t).val + s.val, by omega⟩ ⟨256 * h.val + d.val, by omega⟩)) ?_ ?_
  · rw [hs_at]
    refine Eq.trans (b := GHh (iblk m c 0 t) (iblk m c 1 t) (iblk m c 2 t) (iblk m c 3 t) (iblk m c 4 t) (iblk m c 6 t) (iblk m c 7 t) (iblk m c 8 t) h s d) ?_ ?_
    · refine congr (congr (congrArg (GHh (iblk m c 0 t) (iblk m c 1 t) (iblk m c 2 t) (iblk m c 3 t) (iblk m c 4 t) (iblk m c 6 t) (iblk m c 7 t) (iblk m c 8 t)) ?_) rfl) ?_
      · exact Fin.ext (show (256 * h.val + d.val) / 256 = h.val by omega)
      · exact Fin.ext (show (256 * h.val + d.val) % 256 = d.val by omega)
    · unfold GHh
      rw [bi_eq, bf_eq, bq_eq, bk_eq, bv_eq, bo_eq, bc_eq, bn_eq, m0_at]
  · generalize hs (F := Ideal) (aX m c) (aG m c) (aC m c) (aN m c) (aM m c) = P
    have := lt32 t
    blk_point [idx9 t]

end Args

end Cert.KernelIdeal.Body

end
-- ==== Proof.M.NormSpec.lean ====
/- The in-projection of one token, over the extended reals: the RMS-normalised row against a column of weights, plus a bias. -/
module

public import Idealize.ShloMosaic.Lib.Pipeline.ValueKit

@[expose] public section

noncomputable section

open Idealize.ShloMosaic

namespace Cert.NormSpec

/-- Entry k of a row divided by the row's root mean square and scaled by g. -/
def nm (x g : Fin 2048 → EReal) (k : Fin 2048) : EReal :=
  x k * Ideal.rsqrt (Ideal.div (∑ j, x j * x j) (Ideal.ofBits .f32 1157627904#32) + Ideal.ofBits .f32 897988541#32) * g k

/-- The normalised row against a column of weights, plus a bias. -/
def pr (x g w : Fin 2048 → EReal) (b : EReal) : EReal := ∑ k, nm x g k * w k + b

/-- The logistic function. -/
def sg (x : EReal) : EReal := Ideal.logistic x

end Cert.NormSpec

end
-- ==== Proof.M.Norm2.lean ====
/- The projection that feeds the heads: queries, keys, values and output gates. The kernel's array and the reference's array, entry by entry. -/
module

public import proofs.«01_k».proof.Proof.Gen.Kernel2Ideal.Value
public import proofs.«01_k».proof.Proof.Gen.Reference2Ideal.Run
public import proofs.«01_k».proof.Proof.M.NormSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference2Ideal.Stage

open Cert.Reference2Ideal Cert.Reference2Ideal.Gen Cert.NormSpec

section AnyValues

variable {F : FTy → Type} [FloatOps F]

/-- The reference's normalised input. -/
def xn (x : FVec F S8x4096x2048 .f32) (g : FVec F S2048 .f32) : FVec F S8x4096x2048 .f32 :=
  mulf (mulf x (broadcastInDim S8x4096x2048 ![0, 1, 2] bcast_S8x4096x1_S8x4096x2048_0_1_2 (Host.rsqrt (addf (Host.divf
      (broadcastInDim S8x4096x1 ![0, 1] bcast_S8x4096_S8x4096x1_0_1
        (Host.reduceAdd (mulf x x) (constant S_ .f32 0x00000000#32) reducesTo_S8x4096x2048_S8x4096_d2 h_S_))
      (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g))

/-- The reference's whole projection. -/
def proj (x : FVec F S8x4096x2048 .f32) (g : FVec F S2048 .f32) (w : FVec F S2048x14352 .f32) (b : FVec F S14352 .f32) : FVec F S8x4096x14352 .f32 :=
  addf (Host.dotGeneral dot_S8x4096x2048_S2048x14352_S8x4096x14352_2_0_01_1_n_n none (xn x g) w)
    (broadcastInDim S8x4096x14352 ![0, 1, 2] bcast_S1x1x14352_S8x4096x14352_0_1_2 (broadcastInDim S1x1x14352 ![2] bcast_S14352_S1x1x14352_2 b))

/-- The reference's result. -/
def out (x : FVec F S8x4096x2048 .f32) (g : FVec F S2048 .f32) (w : FVec F S2048x14352 .f32) (b : FVec F S14352 .f32) : FVec F S32768x8192 .bf16 :=
  shapeCast _ (truncf .bf16 (extractStridedSlice S8x4096x8192 ![0, 0, 0] (proj x g w b) slices_S8x4096x14352_S8x4096x8192_0_0_0) bitsLt_bf16_f32)
    shapeCasts_S8x4096x8192_S32768x8192

end AnyValues

variable (x : FVec Ideal S8x4096x2048 .f32) (g : FVec Ideal S2048 .f32) (w : FVec Ideal S2048x14352 .f32) (b : FVec Ideal S14352 .f32)

/-- The normalised input, entry by entry. -/
theorem xn_at (u : Fin 8) (s : Fin 4096) (k : Fin 2048) : xn x g (ix3 u s k) = nm (fun j => x (ix3 u s j)) (fun j => g (ix1 j)) k := by
  pointwise [xn]
  rfl

/-- The projection, entry by entry. -/
theorem proj_at (u : Fin 8) (s : Fin 4096) (l : Fin 14352) :
    proj x g w b (ix3 u s l) = pr (fun j => x (ix3 u s j)) (fun j => g (ix1 j)) (fun k => w (ix2 k l)) (b (ix1 l)) := by
  pointwise [proj]
  simp only [xn_at]
  rfl

/-- Row r of the input, the batches' tokens one after another. -/
def xr (r : Fin 32768) : Fin 2048 → EReal := fun j => x (ix3 ⟨r.val / 4096, by omega⟩ ⟨r.val % 4096, by omega⟩ j)

/-- The entry that row r and column l of the result hold. -/
abbrev val (r : Fin 32768) (l : Fin 8192) : EReal :=
  (pr (xr x r) (fun j => g (ix1 j)) (fun k => w (ix2 k ⟨0 + l.val, by omega⟩)) (b (ix1 ⟨0 + l.val, by omega⟩)))

/-- The result, entry by entry. -/
theorem out_at (r : Fin 32768) (l : Fin 8192) : out x g w b (ix2 r l) = val x g w b r l := by
  pointwise [out]
  rw [proj_at]
  simp only [val, Nat.zero_add]
  rfl

end Cert.Reference2Ideal.Stage

namespace Cert.Kernel2Ideal.Body

open Cert.Kernel2Ideal Cert.Kernel2Ideal.Gen Cert.NormSpec Cert.Reference2Ideal.Stage

/-- The rows the kernel keeps between points, entry by entry. -/
theorem pay1_at (x : Vec Ideal S1024x2048 .f32) (g : Vec Ideal S1x2048 .f32) (r : Fin 1024) (k : Fin 2048) :
    k0_pay1 x g (ix2 r k) = nm (fun j => x (ix2 r j)) (fun j => g (ix2 0 j)) k := by
  pointwise [k0_pay1]
  rfl

/-- The block the kernel stores, entry by entry. -/
theorem pay2_at (x : Vec Ideal S1024x2048 .bf16) (w : Vec Ideal S2048x1024 .bf16) (b : Vec Ideal S1x1024 .f32) (r l : Fin 1024) :
    k0_pay2 x w b (ix2 r l) = (∑ k, x (ix2 r k) * w (ix2 k l) + b (ix2 0 l)) := by
  pointwise [k0_pay2]

variable (m : (ℓ : Loc nD τ sig) → Buf (Elt Ideal) ℓ) (c : Dev nD)

/-- The first argument. -/
abbrev aX : Vec Ideal S8x4096x2048 .f32 := m ((c : Thread nD τ).loc main_arg0)

/-- The second argument. -/
abbrev aG : Vec Ideal S2048 .f32 := m ((c : Thread nD τ).loc main_arg1)

/-- The third argument. -/
abbrev aW : Vec Ideal S2048x14352 .f32 := m ((c : Thread nD τ).loc main_arg2)

/-- The fourth argument. -/
abbrev aB : Vec Ideal S14352 .f32 := m ((c : Thread nD τ).loc main_arg3)

/-- The rows' block index. -/
theorem idx0 : ∀ t : Fin cfg0.N, win0_0.index t = ![t.val / 8, 0] := (by decide +kernel : ∀ t : Fin grid0.N, _)

/-- The scale's block index. -/
theorem idx1 : ∀ t : Fin cfg0.N, win0_1.index t = ![0, 0] := (by decide +kernel : ∀ t : Fin grid0.N, _)

/-- The weights' block index. -/
theorem idx2 : ∀ t : Fin cfg0.N, win0_2.index t = ![0, t.val % 8] := (by decide +kernel : ∀ t : Fin grid0.N, _)

/-- The bias's block index. -/
theorem idx3 : ∀ t : Fin cfg0.N, win0_3.index t = ![0, t.val % 8] := (by decide +kernel : ∀ t : Fin grid0.N, _)

/-- The result's block index. -/
theorem idx4 : ∀ t : Fin cfg0.N, win0_4.index t = ![t.val / 8, t.val % 8] := (by decide +kernel : ∀ t : Fin grid0.N, _)

/-- How many points the grid has. -/
theorem ltN (t : Fin cfg0.N) : t.val < 32 * 8 := lt_of_lt_of_eq t.isLt N_0

/-- The token that row r of the block of rows at point t holds. -/
abbrev row (t : Fin cfg0.N) (r : Fin 1024) : Fin 32768 := ⟨1024 * (t.val / 8) + r.val, by have := ltN t; omega⟩

/-- The column that lane l of the block of weights at point t holds. -/
abbrev col (t : Fin cfg0.N) (l : Fin 1024) : Fin 8192 := ⟨1024 * (t.val % 8) + l.val, by omega⟩

/-- The rows' block, entry by entry. -/
theorem x_at (t : Fin cfg0.N) (r : Fin 1024) (k : Fin 2048) :
    iblk m c 0 t (ix2 r k) = xr (aX m c) (row t r) k := by
  have := ltN t
  unfold xr
  change V m c main_v0 _ = _
  simp only [V, hostOps0, List.flatten_cons, List.flatten_nil, List.cons_append, List.nil_append]
  entry_read
  pointwise
  blk_point [idx0 t]

/-- The scale's block, entry by entry. -/
theorem g_at (t : Fin cfg0.N) (k : Fin 2048) : iblk m c 1 t (ix2 0 k) = aG m c (ix1 k) := by
  have := ltN t
  change V m c main_v3 _ = _
  simp only [V, hostOps0, List.flatten_cons, List.flatten_nil, List.cons_append, List.nil_append]
  entry_read
  pointwise
  blk_point [idx1 t]

/-- The weights' block, entry by entry. -/
theorem w_at (t : Fin cfg0.N) (k : Fin 2048) (l : Fin 1024) :
    iblk m c 2 t (ix2 k l) = aW m c (ix2 k ⟨0 + (col t l).val, by omega⟩) := by
  have := ltN t
  change V m c main_v2 _ = _
  simp only [V, hostOps0, List.flatten_cons, List.flatten_nil, List.cons_append, List.nil_append]
  entry_read
  pointwise
  blk_point [idx2 t]

/-- The bias's block, entry by entry. -/
theorem b_at (t : Fin cfg0.N) (l : Fin 1024) : iblk m c 3 t (ix2 0 l) = aB m c (ix1 ⟨0 + (col t l).val, by omega⟩) := by
  have := ltN t
  change V m c main_v5 _ = _
  simp only [V, hostOps0, List.flatten_cons, List.flatten_nil, List.cons_append, List.nil_append]
  entry_read
  pointwise
  blk_point [idx3 t]

/-- The result's block at a point that normalises its rows. -/
theorem outA (t : Fin cfg0.N) (h0 : t.val % 8 = 0) :
    (outsAt0 m c t.val t.isLt).1 = k0_pay2 (k0_pay1 (iblk m c 0 t) (iblk m c 1 t)) (iblk m c 2 t) (iblk m c 3 t) := by
  rw [outsAt0_A m c t h0]
  unfold out0_A_4
  frame_out

/-- The rows kept from such a point on. -/
theorem keptA (t : Fin cfg0.N) (h0 : t.val % 8 = 0) : (outsAt0 m c t.val t.isLt).2 = k0_pay1 (iblk m c 0 t) (iblk m c 1 t) := by
  rw [outsAt0_A m c t h0]
  unfold sout0_A_0
  frame_out

/-- The result's block at any other point. -/
theorem outB (t : Fin cfg0.N) (h0 : ¬t.val % 8 = 0) :
    (outsAt0 m c t.val t.isLt).1 = k0_pay2 (outsAt0 m c (t.val - 1) (by omega)).2 (iblk m c 2 t) (iblk m c 3 t) := by
  rw [outsAt0_B m c t h0]
  unfold out0_B_4
  frame_out
  exact congrArg (fun v => k0_pay2 v (iblk m c 2 t) (iblk m c 3 t)) ((Memref.isWhole_whole _).read_unread _)

/-- The rows are kept there. -/
theorem keptB (t : Fin cfg0.N) (h0 : ¬t.val % 8 = 0) : (outsAt0 m c t.val t.isLt).2 = (outsAt0 m c (t.val - 1) (by omega)).2 := by
  rw [outsAt0_B m c t h0]
  rfl

/-- After every point the kept rows are the normalised rows of the point's block. -/
theorem kept : ∀ (n : ℕ) (hn : n < cfg0.N) (r : Fin 1024) (k : Fin 2048),
    (outsAt0 m c n hn).2 (ix2 r k) = nm (xr (aX m c) (row ⟨n, hn⟩ r)) (fun j => aG m c (ix1 j)) k := by
  intro n
  induction n with
  | zero =>
    intro hn r k
    refine (congrFun (keptA m c ⟨0, hn⟩ rfl) _).trans ((pay1_at _ _ r k).trans ?_)
    simp only [x_at, g_at]
  | succ n ih =>
    intro hn r k
    by_cases h0 : (n + 1) % 8 = 0
    · refine (congrFun (keptA m c ⟨n + 1, hn⟩ h0) _).trans ((pay1_at _ _ r k).trans ?_)
      simp only [x_at, g_at]
    · refine (congrFun (keptB m c ⟨n + 1, hn⟩ h0) _).trans ((ih (by omega) r k).trans ?_)
      exact congrArg (fun q => nm (xr (aX m c) q) (fun j => aG m c (ix1 j)) k) (Fin.ext (by simp only [row]; omega))

/-- The result's block at any point, entry by entry. -/
theorem out_block (t : Fin cfg0.N) (r l : Fin 1024) :
    (outsAt0 m c t.val t.isLt).1 (ix2 r l) = val (aX m c) (aG m c) (aW m c) (aB m c) (row t r) (col t l) := by
  have key : (outsAt0 m c t.val t.isLt).1 = k0_pay2 (outsAt0 m c t.val t.isLt).2 (iblk m c 2 t) (iblk m c 3 t) := by
    by_cases h0 : t.val % 8 = 0
    · rw [outA m c t h0, keptA m c t h0]
    · rw [outB m c t h0, keptB m c t h0]
  rw [key, pay2_at]
  simp only [kept, w_at, b_at]
  rfl

/-- The array the kernel leaves is the reference's result. -/
theorem final : (dats m 0 c).arrAt 4 cfg0.N = out (F := Ideal) (aX m c) (aG m c) (aW m c) (aB m c) := by
  refine (dats m 0 c).arrAt_eq_of_covers 4 _ (by decide +kernel) fun t hf y => ?_
  blk_simp
  rw [after0_4]
  obtain ⟨r, l, rfl⟩ : ∃ r l : Fin 1024, y = ix2 r l := ⟨y 0, y 1, by
    funext a
    fin_cases a <;> rfl⟩
  rw [out_block m c t r l, ← out_at]
  generalize out (F := Ideal) (aX m c) (aG m c) (aW m c) (aB m c) = P
  have := ltN t
  blk_point [idx4 t]

end Cert.Kernel2Ideal.Body

end
-- ==== Proof.M.Norm3.lean ====
/- The two gates of the mix: sigmoids of the last columns of the projection. The kernel's array and the reference's array, entry by entry. -/
module

public import proofs.«01_k».proof.Proof.Gen.Kernel3Ideal.Value
public import proofs.«01_k».proof.Proof.Gen.Reference3Ideal.Run
public import proofs.«01_k».proof.Proof.M.NormSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference3Ideal.Stage

open Cert.Reference3Ideal Cert.Reference3Ideal.Gen Cert.NormSpec

section AnyValues

variable {F : FTy → Type} [FloatOps F]

/-- The reference's normalised input. -/
def xn (x : FVec F S8x4096x2048 .f32) (g : FVec F S2048 .f32) : FVec F S8x4096x2048 .f32 :=
  mulf (mulf x (broadcastInDim S8x4096x2048 ![0, 1, 2] bcast_S8x4096x1_S8x4096x2048_0_1_2 (Host.rsqrt (addf (Host.divf
      (broadcastInDim S8x4096x1 ![0, 1] bcast_S8x4096_S8x4096x1_0_1
        (Host.reduceAdd (mulf x x) (constant S_ .f32 0x00000000#32) reducesTo_S8x4096x2048_S8x4096_d2 h_S_))
      (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g))

/-- The reference's whole projection. -/
def proj (x : FVec F S8x4096x2048 .f32) (g : FVec F S2048 .f32) (w : FVec F S2048x14352 .f32) (b : FVec F S14352 .f32) : FVec F S8x4096x14352 .f32 :=
  addf (Host.dotGeneral dot_S8x4096x2048_S2048x14352_S8x4096x14352_2_0_01_1_n_n none (xn x g) w)
    (broadcastInDim S8x4096x14352 ![0, 1, 2] bcast_S1x1x14352_S8x4096x14352_0_1_2 (broadcastInDim S1x1x14352 ![2] bcast_S14352_S1x1x14352_2 b))

/-- The reference's result. -/
def out (x : FVec F S8x4096x2048 .f32) (g : FVec F S2048 .f32) (w : FVec F S2048x14352 .f32) (b : FVec F S14352 .f32) : FVec F S32768x4096 .bf16 :=
  shapeCast _ (truncf .bf16 (Host.divf (broadcastInDim S8x4096x4096 ![] bcast_S_S8x4096x4096 (constant S_ .f32 0x3F800000#32)) (addf (broadcastInDim S8x4096x4096 ![] bcast_S_S8x4096x4096 (constant S_ .f32 0x3F800000#32)) (Host.exp (Host.negf (extractStridedSlice S8x4096x4096 ![0, 0, 10256] (proj x g w b) slices_S8x4096x14352_S8x4096x4096_0_0_10256))))) bitsLt_bf16_f32)
    shapeCasts_S8x4096x4096_S32768x4096

end AnyValues

variable (x : FVec Ideal S8x4096x2048 .f32) (g : FVec Ideal S2048 .f32) (w : FVec Ideal S2048x14352 .f32) (b : FVec Ideal S14352 .f32)

/-- The normalised input, entry by entry. -/
theorem xn_at (u : Fin 8) (s : Fin 4096) (k : Fin 2048) : xn x g (ix3 u s k) = nm (fun j => x (ix3 u s j)) (fun j => g (ix1 j)) k := by
  pointwise [xn]
  rfl

/-- The projection, entry by entry. -/
theorem proj_at (u : Fin 8) (s : Fin 4096) (l : Fin 14352) :
    proj x g w b (ix3 u s l) = pr (fun j => x (ix3 u s j)) (fun j => g (ix1 j)) (fun k => w (ix2 k l)) (b (ix1 l)) := by
  pointwise [proj]
  simp only [xn_at]
  rfl

/-- Row r of the input, the batches' tokens one after another. -/
def xr (r : Fin 32768) : Fin 2048 → EReal := fun j => x (ix3 ⟨r.val / 4096, by omega⟩ ⟨r.val % 4096, by omega⟩ j)

/-- The entry that row r and column l of the result hold. -/
abbrev val (r : Fin 32768) (l : Fin 4096) : EReal :=
  sg (pr (xr x r) (fun j => g (ix1 j)) (fun k => w (ix2 k ⟨10256 + l.val, by omega⟩)) (b (ix1 ⟨10256 + l.val, by omega⟩)))

/-- The result, entry by entry. -/
theorem out_at (r : Fin 32768) (l : Fin 4096) : out x g w b (ix2 r l) = val x g w b r l := by
  pointwise [out]
  rw [proj_at]
  rfl

end Cert.Reference3Ideal.Stage

namespace Cert.Kernel3Ideal.Body

open Cert.Kernel3Ideal Cert.Kernel3Ideal.Gen Cert.NormSpec Cert.Reference3Ideal.Stage

/-- The rows the kernel keeps between points, entry by entry. -/
theorem pay1_at (x : Vec Ideal S1024x2048 .f32) (g : Vec Ideal S1x2048 .f32) (r : Fin 1024) (k : Fin 2048) :
    k0_pay1 x g (ix2 r k) = nm (fun j => x (ix2 r j)) (fun j => g (ix2 0 j)) k := by
  pointwise [k0_pay1]
  rfl

/-- The block the kernel stores, entry by entry. -/
theorem pay2_at (x : Vec Ideal S1024x2048 .bf16) (w : Vec Ideal S2048x1024 .bf16) (b : Vec Ideal S1x1024 .f32) (r l : Fin 1024) :
    k0_pay2 x w b (ix2 r l) = sg (∑ k, x (ix2 r k) * w (ix2 k l) + b (ix2 0 l)) := by
  pointwise [k0_pay2]
  rfl

variable (m : (ℓ : Loc nD τ sig) → Buf (Elt Ideal) ℓ) (c : Dev nD)

/-- The first argument. -/
abbrev aX : Vec Ideal S8x4096x2048 .f32 := m ((c : Thread nD τ).loc main_arg0)

/-- The second argument. -/
abbrev aG : Vec Ideal S2048 .f32 := m ((c : Thread nD τ).loc main_arg1)

/-- The third argument. -/
abbrev aW : Vec Ideal S2048x14352 .f32 := m ((c : Thread nD τ).loc main_arg2)

/-- The fourth argument. -/
abbrev aB : Vec Ideal S14352 .f32 := m ((c : Thread nD τ).loc main_arg3)

/-- The rows' block index. -/
theorem idx0 : ∀ t : Fin cfg0.N, win0_0.index t = ![t.val / 4, 0] := (by decide +kernel : ∀ t : Fin grid0.N, _)

/-- The scale's block index. -/
theorem idx1 : ∀ t : Fin cfg0.N, win0_1.index t = ![0, 0] := (by decide +kernel : ∀ t : Fin grid0.N, _)

/-- The weights' block index. -/
theorem idx2 : ∀ t : Fin cfg0.N, win0_2.index t = ![0, t.val % 4] := (by decide +kernel : ∀ t : Fin grid0.N, _)

/-- The bias's block index. -/
theorem idx3 : ∀ t : Fin cfg0.N, win0_3.index t = ![0, t.val % 4] := (by decide +kernel : ∀ t : Fin grid0.N, _)

/-- The result's block index. -/
theorem idx4 : ∀ t : Fin cfg0.N, win0_4.index t = ![t.val / 4, t.val % 4] := (by decide +kernel : ∀ t : Fin grid0.N, _)

/-- How many points the grid has. -/
theorem ltN (t : Fin cfg0.N) : t.val < 32 * 4 := lt_of_lt_of_eq t.isLt N_0

/-- The token that row r of the block of rows at point t holds. -/
abbrev row (t : Fin cfg0.N) (r : Fin 1024) : Fin 32768 := ⟨1024 * (t.val / 4) + r.val, by have := ltN t; omega⟩

/-- The column that lane l of the block of weights at point t holds. -/
abbrev col (t : Fin cfg0.N) (l : Fin 1024) : Fin 4096 := ⟨1024 * (t.val % 4) + l.val, by omega⟩

/-- The rows' block, entry by entry. -/
theorem x_at (t : Fin cfg0.N) (r : Fin 1024) (k : Fin 2048) :
    iblk m c 0 t (ix2 r k) = xr (aX m c) (row t r) k := by
  have := ltN t
  unfold xr
  change V m c main_v0 _ = _
  simp only [V, hostOps0, List.flatten_cons, List.flatten_nil, List.cons_append, List.nil_append]
  entry_read
  pointwise
  blk_point [idx0 t]

/-- The scale's block, entry by entry. -/
theorem g_at (t : Fin cfg0.N) (k : Fin 2048) : iblk m c 1 t (ix2 0 k) = aG m c (ix1 k) := by
  have := ltN t
  change V m c main_v3 _ = _
  simp only [V, hostOps0, List.flatten_cons, List.flatten_nil, List.cons_append, List.nil_append]
  entry_read
  pointwise
  blk_point [idx1 t]

/-- The weights' block, entry by entry. -/
theorem w_at (t : Fin cfg0.N) (k : Fin 2048) (l : Fin 1024) :
    iblk m c 2 t (ix2 k l) = aW m c (ix2 k ⟨10256 + (col t l).val, by omega⟩) := by
  have := ltN t
  change V m c main_v2 _ = _
  simp only [V, hostOps0, List.flatten_cons, List.flatten_nil, List.cons_append, List.nil_append]
  entry_read
  pointwise
  blk_point [idx2 t]

/-- The bias's block, entry by entry. -/
theorem b_at (t : Fin cfg0.N) (l : Fin 1024) : iblk m c 3 t (ix2 0 l) = aB m c (ix1 ⟨10256 + (col t l).val, by omega⟩) := by
  have := ltN t
  change V m c main_v5 _ = _
  simp only [V, hostOps0, List.flatten_cons, List.flatten_nil, List.cons_append, List.nil_append]
  entry_read
  pointwise
  blk_point [idx3 t]

/-- The result's block at a point that normalises its rows. -/
theorem outA (t : Fin cfg0.N) (h0 : t.val % 4 = 0) :
    (outsAt0 m c t.val t.isLt).1 = k0_pay2 (k0_pay1 (iblk m c 0 t) (iblk m c 1 t)) (iblk m c 2 t) (iblk m c 3 t) := by
  rw [outsAt0_A m c t h0]
  unfold out0_A_4
  frame_out

/-- The rows kept from such a point on. -/
theorem keptA (t : Fin cfg0.N) (h0 : t.val % 4 = 0) : (outsAt0 m c t.val t.isLt).2 = k0_pay1 (iblk m c 0 t) (iblk m c 1 t) := by
  rw [outsAt0_A m c t h0]
  unfold sout0_A_0
  frame_out

/-- The result's block at any other point. -/
theorem outB (t : Fin cfg0.N) (h0 : ¬t.val % 4 = 0) :
    (outsAt0 m c t.val t.isLt).1 = k0_pay2 (outsAt0 m c (t.val - 1) (by omega)).2 (iblk m c 2 t) (iblk m c 3 t) := by
  rw [outsAt0_B m c t h0]
  unfold out0_B_4
  frame_out
  exact congrArg (fun v => k0_pay2 v (iblk m c 2 t) (iblk m c 3 t)) ((Memref.isWhole_whole _).read_unread _)

/-- The rows are kept there. -/
theorem keptB (t : Fin cfg0.N) (h0 : ¬t.val % 4 = 0) : (outsAt0 m c t.val t.isLt).2 = (outsAt0 m c (t.val - 1) (by omega)).2 := by
  rw [outsAt0_B m c t h0]
  rfl

/-- After every point the kept rows are the normalised rows of the point's block. -/
theorem kept : ∀ (n : ℕ) (hn : n < cfg0.N) (r : Fin 1024) (k : Fin 2048),
    (outsAt0 m c n hn).2 (ix2 r k) = nm (xr (aX m c) (row ⟨n, hn⟩ r)) (fun j => aG m c (ix1 j)) k := by
  intro n
  induction n with
  | zero =>
    intro hn r k
    refine (congrFun (keptA m c ⟨0, hn⟩ rfl) _).trans ((pay1_at _ _ r k).trans ?_)
    simp only [x_at, g_at]
  | succ n ih =>
    intro hn r k
    by_cases h0 : (n + 1) % 4 = 0
    · refine (congrFun (keptA m c ⟨n + 1, hn⟩ h0) _).trans ((pay1_at _ _ r k).trans ?_)
      simp only [x_at, g_at]
    · refine (congrFun (keptB m c ⟨n + 1, hn⟩ h0) _).trans ((ih (by omega) r k).trans ?_)
      exact congrArg (fun q => nm (xr (aX m c) q) (fun j => aG m c (ix1 j)) k) (Fin.ext (by simp only [row]; omega))

/-- The result's block at any point, entry by entry. -/
theorem out_block (t : Fin cfg0.N) (r l : Fin 1024) :
    (outsAt0 m c t.val t.isLt).1 (ix2 r l) = val (aX m c) (aG m c) (aW m c) (aB m c) (row t r) (col t l) := by
  have key : (outsAt0 m c t.val t.isLt).1 = k0_pay2 (outsAt0 m c t.val t.isLt).2 (iblk m c 2 t) (iblk m c 3 t) := by
    by_cases h0 : t.val % 4 = 0
    · rw [outA m c t h0, keptA m c t h0]
    · rw [outB m c t h0, keptB m c t h0]
  rw [key, pay2_at]
  simp only [kept, w_at, b_at]
  rfl

/-- The array the kernel leaves is the reference's result. -/
theorem final : (dats m 0 c).arrAt 4 cfg0.N = out (F := Ideal) (aX m c) (aG m c) (aW m c) (aB m c) := by
  refine (dats m 0 c).arrAt_eq_of_covers 4 _ (by decide +kernel) fun t hf y => ?_
  blk_simp
  rw [after0_4]
  obtain ⟨r, l, rfl⟩ : ∃ r l : Fin 1024, y = ix2 r l := ⟨y 0, y 1, by
    funext a
    fin_cases a <;> rfl⟩
  rw [out_block m c t r l, ← out_at]
  generalize out (F := Ideal) (aX m c) (aG m c) (aW m c) (aB m c) = P
  have := ltN t
  blk_point [idx4 t]

end Cert.Kernel3Ideal.Body

end
-- ==== Proof.M.GluRun.lean ====
/- The gates and gated-unit kernel: one call of its body at any grid point, from the contents its buffers hold before to the contents they hold after. Over any float values. -/
module

public import proofs.«01_k».proof.Proof.Gen.Kernel4Ideal.Frame
public import proofs.«01_k».proof.Proof.Gen.Kernel4Ideal.Skeleton

@[expose] public section

set_option maxRecDepth 16384

noncomputable section

namespace Cert.Kernel4Ideal.Glu

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one condition: the second grid coordinate is zero. -/
abbrev cond (i : grid0.Coords) : Prop := k0_cond1 i = 1#1

/-- The condition holds at the even points, and at no other. -/
theorem hcond : ∀ t : Fin cfg0.N, cond (grid0.coords t) ↔ t.val % 2 = 0 :=
  (fun t => by
    have ht : t.val < 128 := Nat.lt_of_lt_of_eq t.isLt N_0
    have e0 : (grid0.coords t 0).val = t.val / 2 % 64 := Pipeline.Grid.coords_val t 0 (by decide) rfl
    have e1 : (grid0.coords t 1).val = t.val / 1 % 2 := Pipeline.Grid.coords_val t 1 (by decide) rfl
    simp only [cond, k0_cond1, e0, e1]
    word_cmp
   : ∀ t : Fin grid0.N, cond (grid0.coords t) ↔ t.val % 2 = 0)

/-! ## The buffers the body is called with at a point -/

abbrev ms0 (t : Fin cfg0.N) : Memref sig .tc .vmem S512x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S2048x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S2048x512 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x512 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S2048x512 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S512x128 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S512x512 .f32 := win0_10.stage (cfg0.slots t 10)
abbrev hs10 (t : Fin cfg0.N) : (ms10 t).IsWhole := hstage0_10 ((cfg0.slots t 10).cast nbuf0_10)
/-- The kept normalised rows' own buffer. -/
abbrev scM : Memref sig .tc .vmem S512x2048 .bf16 := Memref.whole cc0_scratch0
/-- Views through which contents are stated: the gates', the gated unit's, the kept rows'. -/
abbrev VO9 : View sig .tc .vmem S512x128 .f32 := (Memref.whole cc0_stg9_0 : Memref sig .tc .vmem S512x128 .f32).view
abbrev VO10 : View sig .tc .vmem S512x512 .f32 := (Memref.whole cc0_stg10_0 : Memref sig .tc .vmem S512x512 .f32).view
abbrev VS : View sig .tc .vmem S512x2048 .bf16 := scM.view

/-- What the region's own invariant says at its start: the kept rows' buffer at any contents, the generator at any state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The body's two cases -/

set_option maxHeartbeats 1600000 in
/-- A point where the condition holds: the rows are normalised and kept, the gates' block and the unit's block are stored. What is stored is found by running the body. -/
noncomputable def runA (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) :
    Σ' (L9 : List (View.Piece (Elt F) S512x128 .f32)) (L10 : List (View.Piece (Elt F) S512x512 .f32)), { LS0 : List (View.Piece (Elt F) S512x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc0_gates_glu i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_gates_glu_eq_skeleton]; unfold cc0_gates_glu_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]; · iexists _; iexact H9
    isplitl [H10]; · iexists _; iexact H10
    iexists _; iexact HS

set_option maxHeartbeats 1600000 in
/-- A point where it fails: only the unit's block is stored, from the kept rows; the gates' block stays as it was. -/
noncomputable def runB (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : ¬cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) (x9 : Vec F S512x128 .f32) (xs : Vec F S512x2048 .bf16) :
    { L10 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ owns (c : Thread nD τ) arg13 fullShare xs) -∗ K ⟨⟩))
          ⊢ wp frame (wpE (defs₀ (F := F)) Variants.none c none) E (cc0_gates_glu i arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0_gates_glu_eq_skeleton]; unfold cc0_gates_glu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; isplitr; · ipureintro; exact harg13.read_unread _
    iexact HS

end Cert.Kernel4Ideal.Glu

end
-- ==== Proof.M.GluFrame.lean ====
/- The gates and gated-unit kernel: what its buffers hold point by point, and its whole run. Over any float values. -/
module

public import proofs.«01_k».proof.Proof.M.GluRun
public import Idealize.ShloMosaic.Lib.Claim

@[expose] public section

set_option maxRecDepth 16384

noncomputable section

namespace Cert.Kernel4Ideal.Glu

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A: the stores into the gates' block fill it. -/
theorem coverA9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) (y : S512x128.Idx) :
    ∃ pc ∈ (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1 S512x128.size (by sl_kernel_rfl) y

/-- Case A: the gates' block after the body. -/
def outA9 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) : Vec F S512x128 .f32 :=
  VO9.read (Elt F) (VO9.writes (Elt F) VO9.junk (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1)

/-- Case A: the stores into the unit's block fill it. -/
theorem coverA10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) (y : S512x512.Idx) :
    ∃ pc ∈ (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1 S512x512.size (by sl_kernel_rfl) y

/-- Case A: the unit's block after the body. -/
def outA10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) : Vec F S512x512 .f32 :=
  VO10.read (Elt F) (VO10.writes (Elt F) VO10.junk (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1)

/-- Case A: the stores into the kept rows fill it. -/
theorem coverAS (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) (y : S512x2048.Idx) :
    ∃ pc ∈ (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1, y ∈ pc.1.set :=
  View.cover_of_tiledL (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1 S512x2048.size (by sl_kernel_rfl) y

/-- Case A: the kept rows after the body. -/
def outAS (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) : Vec F S512x2048 .bf16 :=
  VS.read (Elt F) (VS.writes (Elt F) VS.junk (runA c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.2.1)

/-- Case B: the stores into the unit's block fill it. -/
theorem coverB10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : ¬cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) (x9 : Vec F S512x128 .f32) (xs : Vec F S512x2048 .bf16) (y : S512x512.Idx) :
    ∃ pc ∈ (runB c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1, y ∈ pc.1.set :=
  View.cover_of_tiledL (runB c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1 S512x512.size (by sl_kernel_rfl) y

/-- Case B: the unit's block after the body. -/
def outB10 (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S1x128 .f32) (harg6 : arg6.IsWhole) (arg7 : Memref sig .tc .vmem S2048x512 .bf16) (harg7 : arg7.IsWhole) (arg8 : Memref sig .tc .vmem S1x512 .f32) (harg8 : arg8.IsWhole) (arg9 : Memref sig .tc .vmem S2048x512 .bf16) (harg9 : arg9.IsWhole) (arg10 : Memref sig .tc .vmem S1x512 .f32) (harg10 : arg10.IsWhole) (arg11 : Memref sig .tc .vmem S512x128 .f32) (harg11 : arg11.IsWhole) (arg12 : Memref sig .tc .vmem S512x512 .f32) (harg12 : arg12.IsWhole) (arg13 : Memref sig .tc .vmem S512x2048 .bf16) (harg13 : arg13.IsWhole) (hc0 : ¬cond i)
    (x0 : Vec F S512x2048 .f32) (x1 : Vec F S1x2048 .f32) (x2 : Vec F S2048x128 .bf16) (x3 : Vec F S2048x128 .bf16) (x4 : Vec F S1x128 .f32) (x5 : Vec F S2048x512 .bf16) (x6 : Vec F S1x512 .f32) (x7 : Vec F S2048x512 .bf16) (x8 : Vec F S1x512 .f32) (x9 : Vec F S512x128 .f32) (xs : Vec F S512x2048 .bf16) : Vec F S512x512 .f32 :=
  VO10.read (Elt F) (VO10.writes (Elt F) VO10.junk (runB c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs).1)

/-! ## What the buffers hold after each point -/

/-- After the body at a point: the gates' block, the unit's block, the kept rows. -/
def outsAt (c : Dev nD) : (n : ℕ) → n < cfg0.N → Vec F S512x128 .f32 × Vec F S512x512 .f32 × Vec F S512x2048 .bf16
  | 0, hn => (outA9 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) scM (Memref.isWhole_whole _) ((hcond ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), outA10 c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) scM (Memref.isWhole_whole _) ((hcond ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), outAS c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) (ms10 ⟨0, hn⟩) (hs10 ⟨0, hn⟩) scM (Memref.isWhole_whole _) ((hcond ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 2 = 0 then
      (outA9 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) scM (Memref.isWhole_whole _) ((hcond ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), outA10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) scM (Memref.isWhole_whole _) ((hcond ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), outAS c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) scM (Memref.isWhole_whole _) ((hcond ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      ((outsAt c n (Nat.lt_of_succ_lt hn)).1, outB10 c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) (ms10 ⟨n + 1, hn⟩) (hs10 ⟨n + 1, hn⟩) scM (Memref.isWhole_whole _) (fun h => h0 ((hcond ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt c n (Nat.lt_of_succ_lt hn)).1 (outsAt c n (Nat.lt_of_succ_lt hn)).2.2, (outsAt c n (Nat.lt_of_succ_lt hn)).2.2)

/-- At an even point. -/
theorem outsAt_A (c : Dev nD) (t : Fin cfg0.N) (h0 : t.val % 2 = 0) :
    outsAt m c t.val t.isLt = (outA9 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond t).mpr h0) (iblk m c 0 t) (iblk m c 1 t) (iblk m c 2 t) (iblk m c 3 t) (iblk m c 4 t) (iblk m c 5 t) (iblk m c 6 t) (iblk m c 7 t) (iblk m c 8 t), outA10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond t).mpr h0) (iblk m c 0 t) (iblk m c 1 t) (iblk m c 2 t) (iblk m c 3 t) (iblk m c 4 t) (iblk m c 5 t) (iblk m c 6 t) (iblk m c 7 t) (iblk m c 8 t), outAS c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) ((hcond t).mpr h0) (iblk m c 0 t) (iblk m c 1 t) (iblk m c 2 t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- At an odd point, over what the point before left. -/
theorem outsAt_B (c : Dev nD) (t : Fin cfg0.N) (h0 : ¬t.val % 2 = 0) :
    outsAt m c t.val t.isLt = ((outsAt m c (t.val - 1) (Nat.lt_of_le_of_lt (Nat.sub_le _ _) t.isLt)).1, outB10 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) scM (Memref.isWhole_whole _) (fun h => h0 ((hcond t).mp h)) (iblk m c 0 t) (iblk m c 1 t) (iblk m c 2 t) (iblk m c 3 t) (iblk m c 4 t) (iblk m c 5 t) (iblk m c 6 t) (iblk m c 7 t) (iblk m c 8 t) (outsAt m c (t.val - 1) (Nat.lt_of_le_of_lt (Nat.sub_le _ _) t.isLt)).1 (outsAt m c (t.val - 1) (Nat.lt_of_le_of_lt (Nat.sub_le _ _) t.isLt)).2.2, (outsAt m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before a position: at the first the kept rows' buffer at anything, afterwards at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2.2)) ∗ (∃ r, prngReg c r))

/-- The invariant before the first point. -/
theorem PhiS_zero (c : Dev nD) (n : ℕ) (h : n ≤ cfg0.N) (hz : n = 0) : PhiS m c n h = Pipeline.ΦA spec0 c := by
  subst hz; rfl

/-- The invariant after a point. -/
theorem PhiS_succ (c : Dev nD) (n : ℕ) (hn : n < cfg0.N) :
    PhiS m c (n + 1) hn = iprop(iprop(owns (c : Thread nD τ) scM fullShare ((outsAt m c n hn).2.2)) ∗ (∃ r, prngReg c r)) := rfl

/-- The invariant before a point that is not the first. -/
theorem PhiS_pos (c : Dev nD) (n : ℕ) (h : n ≤ cfg0.N) (hz : n ≠ 0) :
    PhiS m c n h = iprop(iprop(owns (c : Thread nD τ) scM fullShare ((outsAt m c (n - 1) (by omega)).2.2)) ∗ (∃ r, prngReg c r)) := by
  cases n with
  | zero => exact absurd rfl hz
  | succ n => rfl

/-- The pipeline's proof data: the arrays as the region finds them, each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt m c t.val t.isLt).1
    | ⟨10, _⟩ => (outsAt m c t.val t.isLt).2.1
  Φ t := PhiS m c t.val (Nat.le_of_lt_succ t.isLt)
  q _ := fullShare
  owed _ := 0

/-- The arrays are what the region finds. -/
theorem A_eq (c : Dev nD) (w : Fin cfg0.W) : (dats m 0 c).A w = V m c (Pipeline.arrRef spec0 w) := by
  dsimp only [dats]

/-- The invariant at a point's start. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- Input 0's buffer after the body: its block. -/
theorem after0 (c : Dev nD) (t : Fin cfg0.N) : (dats m 0 c).after 0 t = iblk m c 0 t := by dsimp only [dats]
/-- Input 1's buffer after the body: its block. -/
theorem after1 (c : Dev nD) (t : Fin cfg0.N) : (dats m 0 c).after 1 t = iblk m c 1 t := by dsimp only [dats]
/-- Input 2's buffer after the body: its block. -/
theorem after2 (c : Dev nD) (t : Fin cfg0.N) : (dats m 0 c).after 2 t = iblk m c 2 t := by dsimp only [dats]
/-- Input 3's buffer after the body: its block. -/
theorem after3 (c : Dev nD) (t : Fin cfg0.N) : (dats m 0 c).after 3 t = iblk m c 3 t := by dsimp only [dats]
/-- Input 4's buffer after the body: its block. -/
theorem after4 (c : Dev nD) (t : Fin cfg0.N) : (dats m 0 c).after 4 t = iblk m c 4 t := by dsimp only [dats]
/-- Input 5's buffer after the body: its block. -/
theorem after5 (c : Dev nD) (t : Fin cfg0.N) : (dats m 0 c).after 5 t = iblk m c 5 t := by dsimp only [dats]
/-- Input 6's buffer after the body: its block. -/
theorem after6 (c : Dev nD) (t : Fin cfg0.N) : (dats m 0 c).after 6 t = iblk m c 6 t := by dsimp only [dats]
/-- Input 7's buffer after the body: its block. -/
theorem after7 (c : Dev nD) (t : Fin cfg0.N) : (dats m 0 c).after 7 t = iblk m c 7 t := by dsimp only [dats]
/-- Input 8's buffer after the body: its block. -/
theorem after8 (c : Dev nD) (t : Fin cfg0.N) : (dats m 0 c).after 8 t = iblk m c 8 t := by dsimp only [dats]
/-- The gates' buffer after the body. -/
theorem after9 (c : Dev nD) (t : Fin cfg0.N) : (dats m 0 c).after 9 t = (outsAt m c t.val t.isLt).1 := by dsimp only [dats]
/-- The unit's buffer after the body. -/
theorem after10 (c : Dev nD) (t : Fin cfg0.N) : (dats m 0 c).after 10 t = (outsAt m c t.val t.isLt).2.1 := by dsimp only [dats]

/-- Input 0's buffer before the body: its block. -/
theorem before0 (c : Dev nD) (t : Fin cfg0.N) (d) : (dats m 0 c).before 0 t d = iblk m c 0 t :=
  before0_0_of m (dats m 0 c) (A_eq m c 0) (after0 m c) t d
/-- Input 1's buffer before the body: its block. -/
theorem before1 (c : Dev nD) (t : Fin cfg0.N) (d) : (dats m 0 c).before 1 t d = iblk m c 1 t :=
  before0_1_of m (dats m 0 c) (A_eq m c 1) (after1 m c) t d
/-- Input 2's buffer before the body: its block. -/
theorem before2 (c : Dev nD) (t : Fin cfg0.N) (d) : (dats m 0 c).before 2 t d = iblk m c 2 t :=
  before0_2_of m (dats m 0 c) (A_eq m c 2) (after2 m c) t d
/-- Input 3's buffer before the body: its block. -/
theorem before3 (c : Dev nD) (t : Fin cfg0.N) (d) : (dats m 0 c).before 3 t d = iblk m c 3 t :=
  before0_3_of m (dats m 0 c) (A_eq m c 3) (after3 m c) t d
/-- Input 4's buffer before the body: its block. -/
theorem before4 (c : Dev nD) (t : Fin cfg0.N) (d) : (dats m 0 c).before 4 t d = iblk m c 4 t :=
  before0_4_of m (dats m 0 c) (A_eq m c 4) (after4 m c) t d
/-- Input 5's buffer before the body: its block. -/
theorem before5 (c : Dev nD) (t : Fin cfg0.N) (d) : (dats m 0 c).before 5 t d = iblk m c 5 t :=
  before0_5_of m (dats m 0 c) (A_eq m c 5) (after5 m c) t d
/-- Input 6's buffer before the body: its block. -/
theorem before6 (c : Dev nD) (t : Fin cfg0.N) (d) : (dats m 0 c).before 6 t d = iblk m c 6 t :=
  before0_6_of m (dats m 0 c) (A_eq m c 6) (after6 m c) t d
/-- Input 7's buffer before the body: its block. -/
theorem before7 (c : Dev nD) (t : Fin cfg0.N) (d) : (dats m 0 c).before 7 t d = iblk m c 7 t :=
  before0_7_of m (dats m 0 c) (A_eq m c 7) (after7 m c) t d
/-- Input 8's buffer before the body: its block. -/
theorem before8 (c : Dev nD) (t : Fin cfg0.N) (d) : (dats m 0 c).before 8 t d = iblk m c 8 t :=
  before0_8_of m (dats m 0 c) (A_eq m c 8) (after8 m c) t d

/-- The gates' window is live at the even points. -/
theorem live9 (t : Fin cfg0.N) (h0 : t.val % 2 = 0) : cfg0.idle 9 (grid0.coords t) = false := by
  show (!(k0_cond1 (grid0.coords t) == 1#1)) = false
  rw [show k0_cond1 (grid0.coords t) = 1#1 from (hcond t).mpr h0]; rfl

/-- At an odd point the gates' buffer holds what the even point before left there. -/
theorem before9 (c : Dev nD) (t : Fin cfg0.N) (h0 : ¬t.val % 2 = 0) (d) :
    (dats m 0 c).before 9 t d = (outsAt m c (t.val - 1) (Nat.lt_of_le_of_lt (Nat.sub_le _ _) t.isLt)).1 := by
  have hz : t.val ≠ 0 := fun h => h0 (by rw [h])
  have hf : (cfg0.win 9).flush ⟨t.val - 1, Nat.lt_of_le_of_lt (Nat.sub_le _ _) t.isLt⟩ = false := by
    rw [Bool.eq_false_iff]; intro h; have := (flush0_9 _).mp h; dsimp only at this; omega
  rw [(dats m 0 c).before_of_pos 9 t hz (Window.fetch_out (cfg0.win 9) rfl t) d, hf, if_neg Bool.false_ne_true]
  unfold Dat.left
  rw [live9 ⟨t.val - 1, Nat.lt_of_le_of_lt (Nat.sub_le _ _) t.isLt⟩ (by dsimp only; omega)]
  rfl

/-- What the body must leave in the gates' buffer, at any point. -/
theorem leaves9 (c : Dev nD) (t : Fin cfg0.N) :
    (dats m 0 c).leavesExact 9 t = owns (c : Thread nD τ) (ms9 t) fullShare ((dats m 0 c).after 9 t) := by
  by_cases h0 : t.val % 2 = 0
  · unfold Dat.leavesExact; rw [show cfg0.idle 9 (cfg0.grid.coords t) = false from live9 t h0]
  · have hf : (cfg0.win 9).flush t = true := (flush0_9 t).mpr (by omega)
    unfold Dat.leavesExact; rw [hf]
    cases cfg0.idle 9 (cfg0.grid.coords t) <;> rfl

/-! ## The body at any point -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ (dats m 0 c).leavesExact 9 t
    ∗ owns (c : Thread nD τ) (ms10 t) fullShare ((dats m 0 c).after 10 t))

set_option maxHeartbeats 6400000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [leaves9 m c t]
  simp only [before0, before1, before2, before3, before4, before5, before6, before7, before8]
  rw [show (dats m 0 c).owesAt () t.succ = (dats m 0 c).owesAt () t.castSucc from rfl,
    after0, after1, after2, after3, after4, after5, after6, after7, after8, after9, after10]
  rw [show (dats m 0 c).Φ t.succ = PhiS m c (t.val + 1) t.isLt from rfl, PhiS_succ]
  by_cases h0 : t.val % 2 = 0
  · by_cases hz : t.val = 0
    · rw [PhiS_castSucc m c t, PhiS_zero m c _ _ hz, PhiA_eq]
      rw [outsAt_A m c t h0]
      unfold outA9 outA10 outAS; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexact HS
      iintro ⟨H0, H1, H2, H3, H4, H5, H6, H7, H8, ⟨%e9, H9⟩, ⟨%e10, H10⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (coverA10 c _ _ _ _ _ _ _ _ _ _ _ _ _ _ _ _ _ _ _ _ _ _ _ _ _ _ _ _ _ _ _ _ _ _ _)
    · rw [PhiS_castSucc m c t, PhiS_pos m c _ _ hz]
      rw [outsAt_A m c t h0]
      unfold outA9 outA10 outAS; (try dsimp only)
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((runA c (grid0.coords t) _ _ _ _ _ _ _ _ _ _ _ _ _ _ _ _ _ _ _ _ _ _ _ _ ((hcond t).mpr h0) (iblk m c 0 t) (iblk m c 1 t) (iblk m c 2 t) (iblk m c 3 t) (iblk m c 4 t) (iblk m c 5 t) (iblk m c 6 t) (iblk m c 7 t) (iblk m c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS]; · iexists _; iexact HS
      iintro ⟨H0, H1, H2, H3, H4, H5, H6, H7, H8, ⟨%e9, H9⟩, ⟨%e10, H10⟩, ⟨%es, HS⟩⟩
      isplitl [HS Hg]
      · isplitl [HS]
        · unfold owns; iexists _; isplitr
          swap; · iexact HS
          ipureintro; exact View.read_writes_of_cover _ _ _ _ _ (coverAS c _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (coverA9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (coverA10 c _ _ _ _ _ _ _ _ _ _ _ _ _ _ _ _ _ _ _ _ _ _ _ _ _ _ _ _ _ _ _ _ _ _ _)
  · have hz : t.val ≠ 0 := fun h => h0 (by rw [h])
    rw [PhiS_castSucc m c t, PhiS_pos m c _ _ hz]
    rw [outsAt_B m c t h0]
    simp only [before9 m c t h0]
    unfold outB10; (try dsimp only)
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) _ _ _ _ _ _ _ _ _ _ _ _ _ _ _ _ _ _ _ _ _ _ _ _ (fun h => h0 ((hcond t).mp h)) (iblk m c 0 t) (iblk m c 1 t) (iblk m c 2 t) (iblk m c 3 t) (iblk m c 4 t) (iblk m c 5 t) (iblk m c 6 t) (iblk m c 7 t) (iblk m c 8 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [HS]; · iexact HS
    iintro ⟨H0, H1, H2, H3, H4, H5, H6, H7, H8, H9, ⟨%e10, H10⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    unfold owns; iexists _; isplitr
    swap; · iexact H10
    ipureintro; exact View.read_writes_of_cover _ _ _ _ _ (coverB10 c _ _ _ _ _ _ _ _ _ _ _ _ _ _ _ _ _ _ _ _ _ _ _ _ _ _ _ _ _ _ _ _ _ _ _ _ _)

/-- The body table's row is the body. -/
theorem defs₀_row (t : Fin cfg0.N) :
    defs₀ (F := F) .tc cfg0.body (cfg0.bodyArgs t (cfg0.slots t)) = bodyAt0 t := by
  unfold defs₀; rw [Defs.onTc_tc]

/-- The obligation of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives back what the launch handed over. -/
theorem hout (c : Dev nD) : (dats m 0 c).Φ (Fin.last cfg0.N) ⊢ Pipeline.ΦA spec0 c := by
  have hN : cfg0.N = 128 := N_0
  rw [show (dats m 0 c).Φ (Fin.last cfg0.N) = PhiS m c (Fin.last cfg0.N).val (Nat.le_of_lt_succ (Fin.last cfg0.N).isLt) from rfl,
    PhiS_pos m c _ _ (by rw [Fin.val_last]; omega), PhiA_eq]
  iintro ⟨HS, Hg⟩
  isplitl [HS]
  · iexists _; iexact HS
  iexact Hg

/-! ## The run -/

set_option maxHeartbeats 1600000 in
set_option backward.isDefEq.respectTransparency.types false in
/-- The run, ending with every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run: every array ends at what the proof data says. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: the arguments end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Kernel4Ideal.Glu

end
-- ==== Proof.M.Glu.lean ====
/- The gated unit that feeds the convolution, and its last rows, the convolution's state. The kernel's arrays and the reference's arrays, entry by entry. -/
module

public import proofs.«01_k».proof.Proof.M.GluFrame
public import proofs.«01_k».proof.Proof.Gen.Reference4Ideal.Run
public import proofs.«01_k».proof.Proof.M.NormSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference4Ideal.Stage

open Cert.Reference4Ideal Cert.Reference4Ideal.Gen Cert.NormSpec

section AnyValues

variable {F : FTy → Type} [FloatOps F]

/-- The reference's normalised input. -/
def xn (x : FVec F S8x4096x2048 .f32) (g : FVec F S2048 .f32) : FVec F S8x4096x2048 .f32 :=
  mulf (mulf x (broadcastInDim S8x4096x2048 ![0, 1, 2] bcast_S8x4096x1_S8x4096x2048_0_1_2 (Host.rsqrt (addf (Host.divf
      (broadcastInDim S8x4096x1 ![0, 1] bcast_S8x4096_S8x4096x1_0_1
        (Host.reduceAdd (mulf x x) (constant S_ .f32 0x00000000#32) reducesTo_S8x4096x2048_S8x4096_d2 h_S_))
      (broadcastInDim S8x4096x1 ![] bcast_S_S8x4096x1 (constant S_ .f32 0x45000000#32)))
      (broadcastInDim S8x4096x1 ![] bcast_S_S8x4096x1 (constant S_ .f32 0x358637BD#32))))))
    (broadcastInDim S8x4096x2048 ![0, 1, 2] bcast_S1x1x2048_S8x4096x2048_0_1_2 (broadcastInDim S1x1x2048 ![2] bcast_S2048_S1x1x2048_2 g))

/-- The reference's whole projection. -/
def proj (x : FVec F S8x4096x2048 .f32) (g : FVec F S2048 .f32) (w : FVec F S2048x14352 .f32) (b : FVec F S14352 .f32) : FVec F S8x4096x14352 .f32 :=
  addf (Host.dotGeneral dot_S8x4096x2048_S2048x14352_S8x4096x14352_2_0_01_1_n_n none (xn x g) w)
    (broadcastInDim S8x4096x14352 ![0, 1, 2] bcast_S1x1x14352_S8x4096x14352_0_1_2 (broadcastInDim S1x1x14352 ![2] bcast_S14352_S1x1x14352_2 b))

/-- The reference's gated unit. -/
def unit (x : FVec F S8x4096x2048 .f32) (g : FVec F S2048 .f32) (w : FVec F S2048x14352 .f32) (b : FVec F S14352 .f32) : FVec F S8x4096x1024 .f32 :=
  mulf (extractStridedSlice S8x4096x1024 ![0, 0, 8208] (proj x g w b) slices_S8x4096x14352_S8x4096x1024_0_0_8208)
    (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, 9232] (proj x g w b) slices_S8x4096x14352_S8x4096x1024_0_0_9232)))))

/-- The reference's first result: the unit, the batches' tokens one after another. -/
def out (x : FVec F S8x4096x2048 .f32) (g : FVec F S2048 .f32) (w : FVec F S2048x14352 .f32) (b : FVec F S14352 .f32) : FVec F S32768x1024 .f32 :=
  shapeCast _ (unit x g w b) shapeCasts_S8x4096x1024_S32768x1024

/-- The reference's second result: the last thirty rows of each batch's unit behind thirty rows of zeros. -/
def last (x : FVec F S8x4096x2048 .f32) (g : FVec F S2048 .f32) (w : FVec F S2048x14352 .f32) (b : FVec F S14352 .f32) : FVec F S8x30x1024 .f32 :=
  extractStridedSlice S8x30x1024 ![0, 4096, 0] (concatenate S8x4126x1024 1 [⟨S8x30x1024, (broadcastInDim S8x30x1024 ![] bcast_S_S8x30x1024 (constant S_ .f32 0x00000000#32))⟩, ⟨S8x4096x1024, unit x g w b⟩] concatenates_S8x30x1024_S8x4096x1024_S8x4126x1024_d1) slices_S8x4126x1024_S8x30x1024_0_4096_0

end AnyValues

variable (x : FVec Ideal S8x4096x2048 .f32) (g : FVec Ideal S2048 .f32) (w : FVec Ideal S2048x14352 .f32) (b : FVec Ideal S14352 .f32)

/-- The normalised input, entry by entry. -/
theorem xn_at (u : Fin 8) (s : Fin 4096) (k : Fin 2048) : xn x g (ix3 u s k) = nm (fun j => x (ix3 u s j)) (fun j => g (ix1 j)) k := by
  pointwise [xn]
  rfl

/-- The projection, entry by entry. -/
theorem proj_at (u : Fin 8) (s : Fin 4096) (l : Fin 14352) :
    proj x g w b (ix3 u s l) = pr (fun j => x (ix3 u s j)) (fun j => g (ix1 j)) (fun k => w (ix2 k l)) (b (ix1 l)) := by
  pointwise [proj]
  simp only [xn_at]
  rfl

/-- Row r of the input, the batches' tokens one after another. -/
def xr (r : Fin 32768) : Fin 2048 → EReal := fun j => x (ix3 ⟨r.val / 4096, by omega⟩ ⟨r.val % 4096, by omega⟩ j)

/-- The entry that row r and column l of the unit hold. -/
abbrev val (r : Fin 32768) (l : Fin 1024) : EReal :=
  pr (xr x r) (fun j => g (ix1 j)) (fun k => w (ix2 k ⟨8208 + l.val, by omega⟩)) (b (ix1 ⟨8208 + l.val, by omega⟩))
    * sg (pr (xr x r) (fun j => g (ix1 j)) (fun k => w (ix2 k ⟨9232 + l.val, by omega⟩)) (b (ix1 ⟨9232 + l.val, by omega⟩)))

/-- The unit, entry by entry. -/
theorem out_at (r : Fin 32768) (l : Fin 1024) : out x g w b (ix2 r l) = val x g w b r l := by
  pointwise [out, unit]
  simp only [proj_at]
  rfl

/-- The last rows are the unit's: none of the zeros is among them. -/
theorem last_at (u : Fin 8) (s : Fin 30) (l : Fin 1024) :
    last x g w b (ix3 u s l) = unit x g w b (ix3 u ⟨4066 + s.val, by omega⟩ l) := by
  generalize hy : unit x g w b = y
  unfold last
  rw [hy]
  pointwise
  rw [dif_neg (by omega)]
  exact congrArg (fun q => y (ix3 u q l)) (Fin.ext (by simp only []; omega))

end Cert.Reference4Ideal.Stage

namespace Cert.Kernel4Ideal.Body

open Cert.Kernel4Ideal Cert.Kernel4Ideal.Gen Cert.Kernel4Ideal.Glu Cert.NormSpec Cert.Reference4Ideal.Stage

/-- The rows the kernel keeps between points, entry by entry. -/
theorem pay4_at (x : Vec Ideal S512x2048 .f32) (g : Vec Ideal S1x2048 .f32) (r : Fin 512) (k : Fin 2048) :
    k0_pay4 x g (ix2 r k) = nm (fun j => x (ix2 r j)) (fun j => g (ix2 0 j)) k := by
  pointwise [k0_pay4, k0_pay3, k0_pay2]
  rfl

/-- The block of the unit the kernel stores, entry by entry. -/
theorem pay1_at (x : Vec Ideal S512x2048 .bf16) (wa : Vec Ideal S2048x512 .bf16) (ba : Vec Ideal S1x512 .f32)
    (wb : Vec Ideal S2048x512 .bf16) (bb : Vec Ideal S1x512 .f32) (r l : Fin 512) :
    k0_pay1 x wa ba wb bb (ix2 r l)
      = (∑ k, x (ix2 r k) * wa (ix2 k l) + ba (ix2 0 l)) * sg (∑ k, x (ix2 r k) * wb (ix2 k l) + bb (ix2 0 l)) := by
  pointwise [k0_pay1]
  rfl

variable (m : (ℓ : Loc nD τ sig) → Buf (Elt Ideal) ℓ) (c : Dev nD)

/-- The first argument. -/
abbrev aX : Vec Ideal S8x4096x2048 .f32 := m ((c : Thread nD τ).loc main_arg0)

/-- The second argument. -/
abbrev aG : Vec Ideal S2048 .f32 := m ((c : Thread nD τ).loc main_arg1)

/-- The third argument. -/
abbrev aW : Vec Ideal S2048x14352 .f32 := m ((c : Thread nD τ).loc main_arg2)

/-- The fourth argument. -/
abbrev aB : Vec Ideal S14352 .f32 := m ((c : Thread nD τ).loc main_arg3)

/-- The rows' block index. -/
theorem idx0 : ∀ t : Fin cfg0.N, win0_0.index t = ![t.val / 2, 0] := (by decide +kernel : ∀ t : Fin grid0.N, _)

/-- The scale's block index. -/
theorem idx1 : ∀ t : Fin cfg0.N, win0_1.index t = ![0, 0] := (by decide +kernel : ∀ t : Fin grid0.N, _)

/-- The value weights' block index. -/
theorem idx5 : ∀ t : Fin cfg0.N, win0_5.index t = ![0, t.val % 2] := (by decide +kernel : ∀ t : Fin grid0.N, _)

/-- The value bias's block index. -/
theorem idx6 : ∀ t : Fin cfg0.N, win0_6.index t = ![0, t.val % 2] := (by decide +kernel : ∀ t : Fin grid0.N, _)

/-- The gate weights' block index. -/
theorem idx7 : ∀ t : Fin cfg0.N, win0_7.index t = ![0, t.val % 2] := (by decide +kernel : ∀ t : Fin grid0.N, _)

/-- The gate bias's block index. -/
theorem idx8 : ∀ t : Fin cfg0.N, win0_8.index t = ![0, t.val % 2] := (by decide +kernel : ∀ t : Fin grid0.N, _)

/-- The unit's block index. -/
theorem idx10 : ∀ t : Fin cfg0.N, win0_10.index t = ![t.val / 2, t.val % 2] := (by decide +kernel : ∀ t : Fin grid0.N, _)

/-- How many points the grid has. -/
theorem ltN (t : Fin cfg0.N) : t.val < 64 * 2 := lt_of_lt_of_eq t.isLt N_0

/-- The token that row r of the block of rows at point t holds. -/
abbrev row (t : Fin cfg0.N) (r : Fin 512) : Fin 32768 := ⟨512 * (t.val / 2) + r.val, by have := ltN t; omega⟩

/-- The column that lane l of the block of weights at point t holds. -/
abbrev col (t : Fin cfg0.N) (l : Fin 512) : Fin 1024 := ⟨512 * (t.val % 2) + l.val, by omega⟩

/-- The rows' block, entry by entry. -/
theorem x_at (t : Fin cfg0.N) (r : Fin 512) (k : Fin 2048) :
    iblk m c 0 t (ix2 r k) = xr (aX m c) (row t r) k := by
  have := ltN t
  unfold xr
  change V m c main_v0 _ = _
  simp only [V, V0, hostOps0, hostOps0_1, hostOps0_2, hostOps0_3, hostOps0_4, List.flatten_cons, List.flatten_nil, List.cons_append, List.nil_append]
  entry_read
  pointwise
  blk_point [idx0 t]

/-- The scale's block, entry by entry. -/
theorem g_at (t : Fin cfg0.N) (k : Fin 2048) : iblk m c 1 t (ix2 0 k) = aG m c (ix1 k) := by
  have := ltN t
  change V m c main_v14 _ = _
  simp only [V, V0, hostOps0, hostOps0_1, hostOps0_2, hostOps0_3, hostOps0_4, List.flatten_cons, List.flatten_nil, List.cons_append, List.nil_append]
  entry_read
  pointwise
  blk_point [idx1 t]

/-- The value weights' block, entry by entry. -/
theorem wa_at (t : Fin cfg0.N) (k : Fin 2048) (l : Fin 512) :
    iblk m c 5 t (ix2 k l) = aW m c (ix2 k ⟨8208 + (col t l).val, by omega⟩) := by
  have := ltN t
  change V m c main_v11 _ = _
  simp only [V, V0, hostOps0, hostOps0_1, hostOps0_2, hostOps0_3, hostOps0_4, List.flatten_cons, List.flatten_nil, List.cons_append, List.nil_append]
  entry_read
  pointwise
  blk_point [idx5 t]

/-- The value bias's block, entry by entry. -/
theorem ba_at (t : Fin cfg0.N) (l : Fin 512) : iblk m c 6 t (ix2 0 l) = aB m c (ix1 ⟨8208 + (col t l).val, by omega⟩) := by
  have := ltN t
  change V m c main_v16 _ = _
  simp only [V, V0, hostOps0, hostOps0_1, hostOps0_2, hostOps0_3, hostOps0_4, List.flatten_cons, List.flatten_nil, List.cons_append, List.nil_append]
  entry_read
  pointwise
  blk_point [idx6 t]

/-- The gate weights' block, entry by entry. -/
theorem wb_at (t : Fin cfg0.N) (k : Fin 2048) (l : Fin 512) :
    iblk m c 7 t (ix2 k l) = aW m c (ix2 k ⟨9232 + (col t l).val, by omega⟩) := by
  have := ltN t
  change V m c main_v13 _ = _
  simp only [V, V0, hostOps0, hostOps0_1, hostOps0_2, hostOps0_3, hostOps0_4, List.flatten_cons, List.flatten_nil, List.cons_append, List.nil_append]
  entry_read
  pointwise
  blk_point [idx7 t]

/-- The gate bias's block, entry by entry. -/
theorem bb_at (t : Fin cfg0.N) (l : Fin 512) : iblk m c 8 t (ix2 0 l) = aB m c (ix1 ⟨9232 + (col t l).val, by omega⟩) := by
  have := ltN t
  change V m c main_v18 _ = _
  simp only [V, V0, hostOps0, hostOps0_1, hostOps0_2, hostOps0_3, hostOps0_4, List.flatten_cons, List.flatten_nil, List.cons_append, List.nil_append]
  entry_read
  pointwise
  blk_point [idx8 t]

/-- The unit's block at a point that normalises its rows. -/
theorem outA (t : Fin cfg0.N) (h0 : t.val % 2 = 0) :
    (outsAt m c t.val t.isLt).2.1 = k0_pay1 (k0_pay4 (iblk m c 0 t) (iblk m c 1 t)) (iblk m c 5 t) (iblk m c 6 t) (iblk m c 7 t) (iblk m c 8 t) := by
  rw [outsAt_A m c t h0]
  unfold outA10
  frame_out

/-- The rows kept from such a point on. -/
theorem keptA (t : Fin cfg0.N) (h0 : t.val % 2 = 0) : (outsAt m c t.val t.isLt).2.2 = k0_pay4 (iblk m c 0 t) (iblk m c 1 t) := by
  rw [outsAt_A m c t h0]
  unfold outAS
  frame_out

/-- The unit's block at any other point. -/
theorem outB (t : Fin cfg0.N) (h0 : ¬t.val % 2 = 0) :
    (outsAt m c t.val t.isLt).2.1 = k0_pay1 (outsAt m c (t.val - 1) (by omega)).2.2 (iblk m c 5 t) (iblk m c 6 t) (iblk m c 7 t) (iblk m c 8 t) := by
  rw [outsAt_B m c t h0]
  unfold outB10
  frame_out
  exact congrArg (fun v => k0_pay1 v (iblk m c 5 t) (iblk m c 6 t) (iblk m c 7 t) (iblk m c 8 t)) ((Memref.isWhole_whole _).read_unread _)

/-- The rows are kept there. -/
theorem keptB (t : Fin cfg0.N) (h0 : ¬t.val % 2 = 0) : (outsAt m c t.val t.isLt).2.2 = (outsAt m c (t.val - 1) (by omega)).2.2 := by
  rw [outsAt_B m c t h0]

/-- After every point the kept rows are the normalised rows of the point's block. -/
theorem kept : ∀ (n : ℕ) (hn : n < cfg0.N) (r : Fin 512) (k : Fin 2048),
    (outsAt m c n hn).2.2 (ix2 r k) = nm (xr (aX m c) (row ⟨n, hn⟩ r)) (fun j => aG m c (ix1 j)) k := by
  intro n
  induction n with
  | zero =>
    intro hn r k
    refine (congrFun (keptA m c ⟨0, hn⟩ rfl) _).trans ((pay4_at _ _ r k).trans ?_)
    simp only [x_at, g_at]
  | succ n ih =>
    intro hn r k
    by_cases h0 : (n + 1) % 2 = 0
    · refine (congrFun (keptA m c ⟨n + 1, hn⟩ h0) _).trans ((pay4_at _ _ r k).trans ?_)
      simp only [x_at, g_at]
    · refine (congrFun (keptB m c ⟨n + 1, hn⟩ h0) _).trans ((ih (by omega) r k).trans ?_)
      exact congrArg (fun q => nm (xr (aX m c) q) (fun j => aG m c (ix1 j)) k) (Fin.ext (by simp only [row]; omega))

/-- The unit's block at any point, entry by entry. -/
theorem out_block (t : Fin cfg0.N) (r l : Fin 512) :
    (outsAt m c t.val t.isLt).2.1 (ix2 r l) = val (aX m c) (aG m c) (aW m c) (aB m c) (row t r) (col t l) := by
  have key : (outsAt m c t.val t.isLt).2.1 = k0_pay1 (outsAt m c t.val t.isLt).2.2 (iblk m c 5 t) (iblk m c 6 t) (iblk m c 7 t) (iblk m c 8 t) := by
    by_cases h0 : t.val % 2 = 0
    · rw [outA m c t h0, keptA m c t h0]
    · rw [outB m c t h0, keptB m c t h0]
  rw [key, pay1_at]
  simp only [kept, wa_at, wb_at, ba_at, bb_at]
  rfl

/-- The unit's array that the kernel leaves is the reference's first result. -/
theorem final : (dats m 0 c).arrAt 10 cfg0.N = out (F := Ideal) (aX m c) (aG m c) (aW m c) (aB m c) := by
  refine (dats m 0 c).arrAt_eq_of_covers 10 _ (by decide +kernel) fun t hf y => ?_
  blk_simp
  rw [after10]
  obtain ⟨r, l, rfl⟩ : ∃ r l : Fin 512, y = ix2 r l := ⟨y 0, y 1, by
    funext a
    fin_cases a <;> rfl⟩
  rw [out_block m c t r l, ← out_at]
  generalize out (F := Ideal) (aX m c) (aG m c) (aW m c) (aB m c) = P
  have := ltN t
  blk_point [idx10 t]

/-- The last thirty rows of each batch, cut from the unit's array, are the reference's second result. -/
theorem cut_eq (x : FVec Ideal S8x4096x2048 .f32) (g : FVec Ideal S2048 .f32) (w : FVec Ideal S2048x14352 .f32) (b : FVec Ideal S14352 .f32) :
    extractStridedSlice S8x30x1024 ![0, 4066, 0] (shapeCast S8x4096x1024 (out x g w b) shapeCasts_S32768x1024_S8x4096x1024) slices_S8x4096x1024_S8x30x1024_0_4066_0
      = last x g w b := by
  funext y
  obtain ⟨u, s, l, rfl⟩ : ∃ (u : Fin 8) (s : Fin 30) (l : Fin 1024), y = ix3 u s l := ⟨y 0, y 1, y 2, by
    funext a
    fin_cases a <;> rfl⟩
  rw [last_at]
  unfold out
  generalize unit x g w b = y
  pointwise

/-- What the kernel leaves in its second result is the reference's second result. -/
theorem final_last : Pipeline.afterTail₀ cfgs (dats m) 0 (V0 m) [hostOps1] c main_v21 = last (F := Ideal) (aX m c) (aG m c) (aW m c) (aB m c) := by
  rw [← cut_eq, ← final m c]
  have h10 : Pipeline.withArrays (cfgs 0).spec c (V0 m c) (fun w => (dats m 0 c).arrAt w (cfgs 0).N) (Proc.devRef .tc main_v19_1) = (dats m 0 c).arrAt 10 cfg0.N :=
    Pipeline.withArrays_arr spec0 (by decide) c (V0 m c) (fun w => (dats m 0 c).arrAt w cfg0.N) 10
  unfold Pipeline.afterTail₀
  simp only [hostOps1, List.flatten_cons, List.flatten_nil, List.cons_append, List.nil_append, List.append_nil]
  entry_read
  rw [h10]
  rfl

end Cert.Kernel4Ideal.Body

end
-- ==== Proof.M.UpRun.lean ====
/- The experts' up-projection kernel: one call of its body at any grid point, from the contents its buffers hold before to the contents they hold after. Over any float values. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀

variable {F : FTy → Type} [FloatOps F]

local notation "𝕄" => MT nD τ sig Unit (Elt F) ℕ (UR sig nD τ) ℕ

/-- The table of experts as the body is handed it. -/
abbrev tbM : Memref sig .tc .smem S297 .i32 := Memref.whole main_v17

/-- The table's buffer is whole. -/
abbrev htbM : tbM.IsWhole := Memref.isWhole_whole _

/-- The contents of the table's buffer. -/
abbrev TbBuf (c : Dev nD) {S : Shape} {e : EltTy} (M : Memref sig .tc .smem S e) : Type := Buf (Elt F) (M.view.loc (c : Thread nD τ))

/-- Half of the table's buffer, at given contents. -/
abbrev tbPt (c : Dev nD) {S : Shape} {e : EltTy} (M : Memref sig .tc .smem S e) (f : TbBuf (F := F) c M) : sProp 𝕄 :=
  M.view.loc (c : Thread nD τ) ↦{fullShare.right} f

/-- The table's index at a number. -/
abbrev ixT (k : Fin 297) : S297.Idx := fun | ⟨0, _⟩ => k

/-- Word k of the table. -/
abbrev word (c : Dev nD) (xt : TbBuf (F := F) c tbM) (k : Fin 297) : BitVec 32 := xt (ixT k)

/-- The tile at a point. -/
abbrev tile (i : grid0.Coords) : Fin 297 := ⟨k0_off1 i 0, by have := Gen.k0_off1_inb i 0; exact this⟩

/-- The tile before it, the first tile's being itself. -/
abbrev prev (i : grid0.Coords) : Fin 297 := ⟨k0_off2 i 0, by have := Gen.k0_off2_inb i 0; exact this⟩

/-- The point's tile is one of those that hold rows. -/
abbrev used (i : grid0.Coords) (n : BitVec 32) : Prop := k0_cond2 i n = 1#1

/-- The point brings in an expert's weights: its tile holds rows and is the first, or another expert's than the tile before. -/
abbrev reload (i : grid0.Coords) (n e e' : BitVec 32) : Prop :=
  Scalar.cmpi .ne (Scalar.extui (Scalar.andi (Scalar.cmpi .slt (BitVec.ofNat 32 (i 1).val) n)
    (Scalar.ori (Scalar.cmpi .eq (BitVec.ofNat 32 (i 1).val) 0#32) (Scalar.cmpi .ne e e'))) : BitVec 32) 0#32 = 1#1

/-- Every eighth row of a tile's words from a given one on. -/
def pick (off : Fin 2 → Nat) (h : ∀ a, S512x128.size a = 0 ∨ off a + (![8, 1] : Fin 2 → Nat) a * (S512x128.size a - 1) < S4096x128.size a)
    (x : Vec F S4096x128 .i32) : Vec F S512x128 .i32 :=
  fun y => x ((⟨off, S512x128.size, ![8, 1], h⟩ : LoadRect S4096x128).idx y)

/-- The gate's block before the nonlinearity. -/
def gate (x : Vec F S4096x128 .i32) (w : Vec F S2048x512 .bf16) (b : Vec F S1x1x512 .f32) : FVec F S512x512 .f32 :=
  k0_pay6 (pick ![0, 0] Gen.inb_S4096x128_S512x128_0_0_s_8_1 x) (pick ![1, 0] Gen.inb_S4096x128_S512x128_1_0_s_8_1 x) (pick ![2, 0] Gen.inb_S4096x128_S512x128_2_0_s_8_1 x) (pick ![3, 0] Gen.inb_S4096x128_S512x128_3_0_s_8_1 x)
    (pick ![4, 0] Gen.inb_S4096x128_S512x128_4_0_s_8_1 x) (pick ![5, 0] Gen.inb_S4096x128_S512x128_5_0_s_8_1 x) (pick ![6, 0] Gen.inb_S4096x128_S512x128_6_0_s_8_1 x) (pick ![7, 0] Gen.inb_S4096x128_S512x128_7_0_s_8_1 x) w b

/-- The up projection's block before its bias. -/
def upb (x : Vec F S4096x128 .i32) (w : Vec F S2048x512 .bf16) : FVec F S512x512 .f32 :=
  k0_pay7 (pick ![0, 0] Gen.inb_S4096x128_S512x128_0_0_s_8_1 x) (pick ![1, 0] Gen.inb_S4096x128_S512x128_1_0_s_8_1 x) (pick ![2, 0] Gen.inb_S4096x128_S512x128_2_0_s_8_1 x) (pick ![3, 0] Gen.inb_S4096x128_S512x128_3_0_s_8_1 x)
    (pick ![4, 0] Gen.inb_S4096x128_S512x128_4_0_s_8_1 x) (pick ![5, 0] Gen.inb_S4096x128_S512x128_5_0_s_8_1 x) (pick ![6, 0] Gen.inb_S4096x128_S512x128_6_0_s_8_1 x) (pick ![7, 0] Gen.inb_S4096x128_S512x128_7_0_s_8_1 x) w

/-- What a point stores whose tile holds rows. -/
def block (x : Vec F S4096x128 .i32) (wg : Vec F S2048x512 .bf16) (bg : Vec F S1x1x512 .f32) (wu : Vec F S2048x512 .bf16) (bu : Vec F S1x1x512 .f32) : FVec F S512x512 .bf16 :=
  k0_pay3 (gate x wg bg) (upb x wu) (k0_pay8 bu)

open Classical in
/-- What a buffer of kept weights holds after a point, from what it held before. -/
def keep (p : Prop) (v w : Vec F S2048x512 .bf16) : Vec F S2048x512 .bf16 := if p then v else w

open Classical in
/-- What the output's block holds after a point. -/
def stored (p : Prop) (v : FVec F S512x512 .bf16) : FVec F S512x512 .bf16 := if p then v else k0_pay4

/-- Either a tile holds rows or the third condition holds. -/
theorem cond3_of (i : grid0.Coords) (n : BitVec 32) (h : ¬used i n) : k0_cond3 i n = 1#1 := by
  revert h
  simp only [used, k0_cond2, k0_cond3]
  generalize Scalar.cmpi .slt (BitVec.ofNat 32 (i 1).val) n = b
  revert b
  decide

/-- Not both. -/
theorem not_cond3 (i : grid0.Coords) (n : BitVec 32) (h : used i n) : ¬k0_cond3 i n = 1#1 := by
  revert h
  simp only [used, k0_cond2, k0_cond3]
  generalize Scalar.cmpi .slt (BitVec.ofNat 32 (i 1).val) n = b
  revert b
  decide

/-- A point that brings in weights has a tile that holds rows. -/
theorem used_of_reload (i : grid0.Coords) (n e e' : BitVec 32) (h : reload i n e e') : used i n := by
  revert h
  simp only [used, reload, k0_cond2]
  generalize Scalar.cmpi .slt (BitVec.ofNat 32 (i 1).val) n = b
  generalize (Scalar.ori (Scalar.cmpi .eq (BitVec.ofNat 32 (i 1).val) 0#32) (Scalar.cmpi .ne e e')) = d
  revert b d
  decide

set_option maxHeartbeats 400000 in
/-- One call of the body at any point. -/
theorem run (c : Dev nD) (i : grid0.Coords) (arg3 : Memref sig .tc .vmem S4096x128 .i32) (harg3 : arg3.IsWhole) (arg4 : Memref sig .tc .vmem S1x2048x512 .f32) (harg4 : arg4.IsWhole) (arg5 : Memref sig .tc .vmem S1x1x512 .f32) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S512x512 .bf16) (harg8 : arg8.IsWhole) (arg9 : Memref sig .tc .vmem S2048x512 .bf16) (harg9 : arg9.IsWhole) (arg10 : Memref sig .tc .vmem S2048x512 .bf16) (harg10 : arg10.IsWhole)
    (x3 : Vec F S4096x128 .i32) (x4 : Vec F S1x2048x512 .f32) (x5 : Vec F S1x1x512 .f32) (x6 : Vec F S1x2048x512 .f32) (x7 : Vec F S1x1x512 .f32) (x9 x10 : Vec F S2048x512 .bf16) (xt : TbBuf (F := F) c tbM)

    (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10 ∗ tbPt c tbM xt
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (stored (used i (word c xt 296)) (block x3 (keep (reload i (word c xt 296) (word c xt (tile i)) (word c xt (prev i))) (k0_pay1 x4) x9) x5 (keep (reload i (word c xt 296) (word c xt (tile i)) (word c xt (prev i))) (k0_pay2 x6) x10) x7)) ∗ owns (c : Thread nD τ) arg9 fullShare (keep (reload i (word c xt 296) (word c xt (tile i)) (word c xt (prev i))) (k0_pay1 x4) x9) ∗ owns (c : Thread nD τ) arg10 fullShare (keep (reload i (word c xt 296) (word c xt (tile i)) (word c xt (prev i))) (k0_pay2 x6) x10) ∗ tbPt c tbM xt) -∗ K ⟨⟩))
    ⊢ wp frame (wpE (defs₀ (F := F)) Variants.none c none) E (cc0_expert_up i tbM htbM arg3 harg3 arg4 harg4 arg5 harg5 arg6 harg6 arg7 harg7 arg8 harg8 arg9 harg9 arg10 harg10) K := by
  simp only [cc0_expert_up_eq_skeleton]; unfold cc0_expert_up_skel
  simp only [k0_part1_eq_skeleton]
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, HT, Hk⟩
  obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10
  sl_exec
  sl_step
  have e0 : run.sl.r c xt = word c xt 296 := by
    unfold run.sl.r
    refine congrArg xt (funext fun a => Fin.ext ?_)
    obtain rfl : a = (0 : Fin 1) := Subsingleton.elim (α := Fin 1) _ _
    rfl
  have e1 : run.sl.r_1 c i xt = word c xt (tile i) := by
    unfold run.sl.r_1
    refine congrArg xt (funext fun a => Fin.ext ?_)
    obtain rfl : a = (0 : Fin 1) := Subsingleton.elim (α := Fin 1) _ _
    rfl
  have e2 : run.sl.r_2 c i xt = word c xt (prev i) := by
    unfold run.sl.r_2
    refine congrArg xt (funext fun a => Fin.ext ?_)
    obtain rfl : a = (0 : Fin 1) := Subsingleton.elim (α := Fin 1) _ _
    rfl
  rw [e0, e1, e2]
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro
    by_cases hu : used i (word c xt 296)
    · refine (congrArg (View.read (Elt F) arg8.view) ((dif_neg (not_cond3 i _ hu)).trans (dif_pos hu))).trans ?_
      rw [View.read_writes_full]
      unfold stored; rw [if_pos hu]
      unfold block gate upb
      refine congr (congr (congrArg k0_pay3 ?_) ?_) ?_
      · unfold run.sl.r_3
        have ev : run.sl.v36 c i arg4 harg4 arg9 harg9 x4 x9 xt = keep (reload i (word c xt 296) (word c xt (tile i)) (word c xt (prev i))) (k0_pay1 x4) x9 := by
          unfold run.sl.v36
          rw [e0, e1, e2, View.readAt_full]
          by_cases hr : reload i (word c xt 296) (word c xt (tile i)) (word c xt (prev i))
          · rw [dif_pos hr, View.read_writes_full]
            unfold keep; rw [if_pos hr, View.readAt_full]
            exact congrArg k0_pay1 hf4
          · rw [dif_neg hr]
            unfold keep; rw [if_neg hr]
            exact hf9
        rw [ev]
        congr 1
        all_goals first
          | (rw [View.readAt_full]; exact hf5)
          | exact funext fun y => congrFun hf3 _
      · unfold run.sl.r_4
        have ev : run.sl.v44 c i arg6 harg6 arg10 harg10 x6 x10 xt = keep (reload i (word c xt 296) (word c xt (tile i)) (word c xt (prev i))) (k0_pay2 x6) x10 := by
          unfold run.sl.v44
          rw [e0, e1, e2, View.readAt_full]
          by_cases hr : reload i (word c xt 296) (word c xt (tile i)) (word c xt (prev i))
          · rw [dif_pos hr, View.read_writes_full]
            unfold keep; rw [if_pos hr, View.readAt_full]
            exact congrArg k0_pay2 hf6
          · rw [dif_neg hr]
            unfold keep; rw [if_neg hr]
            exact hf10
        rw [ev]
        congr 1
        all_goals first
          | (rw [View.readAt_full]; exact hf5)
          | exact funext fun y => congrFun hf3 _
      · unfold run.sl.r_5
        rw [View.readAt_full]
        exact congrArg k0_pay8 hf7
    · refine (congrArg (View.read (Elt F) arg8.view) (dif_pos (cond3_of i _ hu))).trans ?_
      rw [View.read_writes_full]
      exact (if_neg hu).symm
  isplitl [H9]
  · iexists _; isplitr
    swap; · iexact H9
    ipureintro
    by_cases hr : reload i (word c xt 296) (word c xt (tile i)) (word c xt (prev i))
    · refine (congrArg (View.read (Elt F) arg9.view) (dif_pos hr)).trans ?_
      rw [View.read_writes_full]
      unfold keep; rw [if_pos hr, View.readAt_full]
      exact congrArg k0_pay1 hf4
    · refine (congrArg (View.read (Elt F) arg9.view) (dif_neg hr)).trans ?_
      unfold keep; rw [if_neg hr]
      exact hf9
  isplitl [H10]
  · iexists _; isplitr
    swap; · iexact H10
    ipureintro
    by_cases hr : reload i (word c xt 296) (word c xt (tile i)) (word c xt (prev i))
    · refine (congrArg (View.read (Elt F) arg10.view) (dif_pos hr)).trans ?_
      rw [View.read_writes_full]
      unfold keep; rw [if_pos hr, View.readAt_full]
      exact congrArg k0_pay2 hf6
    · refine (congrArg (View.read (Elt F) arg10.view) (dif_neg hr)).trans ?_
      unfold keep; rw [if_neg hr]
      exact hf10
  iexact HT

end Cert.Kernel5Ideal.Up

end
-- ==== Proof.M.UpInv.lean ====
/- The experts' up-projection kernel: what its buffers hold point by point, for every table whose blocks lie inside their arrays. Over any float values. -/
module

public import proofs.«01_k».proof.Proof.M.UpRun
public import Idealize.ShloMosaic.Lib.Claim

@[expose] public section

set_option maxRecDepth 16384

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Up to the region -/

/-- What each buffer holds when the region is entered. -/
abbrev V (c : Dev nD) (b : Ref sig .tc) : Buf (Elt F) ((c : Thread nD τ).loc b) := StableHlo.after (List.flatten [hostOps0, hostOps0_1, hostOps0_2, hostOps0_3]) (fun b => m (c, b)) b

/-- The host operations make no buffer of their own. -/
theorem hostOps0_fresh : (hostOps0 : List (HloOp τ sig (Elt F))).Forall fun op => op.fresh = ∅ := by
  simp only [List.Forall]; repeat' constructor
/-- Nor do those of the division. -/
theorem hostOps0_1_fresh : (hostOps0_1 : List (HloOp τ sig (Elt F))).Forall fun op => op.fresh = ∅ := by
  simp only [List.Forall]; repeat' constructor
/-- Nor do those of the running sum. -/
theorem hostOps0_2_fresh : (hostOps0_2 : List (HloOp τ sig (Elt F))).Forall fun op => op.fresh = ∅ := by
  simp only [List.Forall]; repeat' constructor
/-- Nor do those after it. -/
theorem hostOps0_3_fresh : (hostOps0_3 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3]
    (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- Argument 0 is found as launched: no host operation writes it. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.TRef.unary, StableHlo.TRef.nullary, StableHlo.TRef.binary, StableHlo.TRef.ternary, Finset.mem_singleton]
    repeat' apply And.intro
    all_goals exact StableHlo.devRef_ne_of_ne (by decide)))
/-- Argument 1 is found as launched: no host operation writes it. -/
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.TRef.unary, StableHlo.TRef.nullary, StableHlo.TRef.binary, StableHlo.TRef.ternary, Finset.mem_singleton]
    repeat' apply And.intro
    all_goals exact StableHlo.devRef_ne_of_ne (by decide)))
/-- Argument 2 is found as launched: no host operation writes it. -/
theorem V_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.TRef.unary, StableHlo.TRef.nullary, StableHlo.TRef.binary, StableHlo.TRef.ternary, Finset.mem_singleton]
    repeat' apply And.intro
    all_goals exact StableHlo.devRef_ne_of_ne (by decide)))
/-- Argument 3 is found as launched: no host operation writes it. -/
theorem V_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.TRef.unary, StableHlo.TRef.nullary, StableHlo.TRef.binary, StableHlo.TRef.ternary, Finset.mem_singleton]
    repeat' apply And.intro
    all_goals exact StableHlo.devRef_ne_of_ne (by decide)))
/-- Argument 4 is found as launched: no host operation writes it. -/
theorem V_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.TRef.unary, StableHlo.TRef.nullary, StableHlo.TRef.binary, StableHlo.TRef.ternary, Finset.mem_singleton]
    repeat' apply And.intro
    all_goals exact StableHlo.devRef_ne_of_ne (by decide)))
/-- Argument 5 is found as launched: no host operation writes it. -/
theorem V_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.TRef.unary, StableHlo.TRef.nullary, StableHlo.TRef.binary, StableHlo.TRef.ternary, Finset.mem_singleton]
    repeat' apply And.intro
    all_goals exact StableHlo.devRef_ne_of_ne (by decide)))

/-! ## The table -/

/-- The table's contents when the region is entered. -/
def tbl : pre0.Contents (Elt F) := fun j => V m (0 : Dev nD) (pre0.ref j)

/-- Every device's table holds them. -/
theorem V_pre (c : Dev nD) (j : Fin 1) : V m c (pre0.ref j) = tbl m j := by
  obtain rfl : c = 0 := Subsingleton.elim _ _; rfl

/-- Every block the table names lies inside its array. -/
abbrev Ok : Prop := ok0 (F := F) (tbl m)

/-- The table's contents, admitted. -/
abbrev adm (hO : Ok m) : (pcfg0 (F := F)).Adm := ⟨tbl m, hO⟩

/-- The pipeline at them. -/
abbrev cfgM (hO : Ok m) : Pipeline.Cfg sig Λ₀ := cfg0 (adm m hO)

/-- The table's half that the body is handed. -/
theorem PhiT0_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- The kept gate weights. -/
abbrev scG : Memref sig .tc .vmem S2048x512 .bf16 := Memref.whole cc0_scratch0
/-- The kept up weights. -/
abbrev scU : Memref sig .tc .vmem S2048x512 .bf16 := Memref.whole cc0_scratch1

/-- What the launch hands the region beside the table. -/
theorem PhiA_eq (c : Dev nD) :
    (Pipeline.ΦA spec0 c : sProp 𝕄)
      = iprop(iprop((∃ d, owns (c : Thread nD τ) scG fullShare d) ∗ (∃ d, owns (c : Thread nD τ) scU fullShare d)) ∗ (∃ r, prngReg c r)) := by
  unfold Pipeline.ΦA; rw [scopedRest0_eq]; simp only [scG, scU, owns_whole]; try rfl

/-! ## The windows' blocks -/

/-- A window's block at a point, of its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))
/-- Input 0's buffer holds its block at every point, for any proof data that starts from the array found and leaves the block in place. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input 1's buffer holds its block at every point, for any proof data that starts from the array found and leaves the block in place. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input 2's buffer holds its block at every point, for any proof data that starts from the array found and leaves the block in place. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input 3's buffer holds its block at every point, for any proof data that starts from the array found and leaves the block in place. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input 4's buffer holds its block at every point, for any proof data that starts from the array found and leaves the block in place. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments end as they began, from a run to what the proof data says of the arrays. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_arg0 m c),
      ((h c).1 0).trans (((dats 0 c).arrAt_in 0 rfl _).trans ((hA c 0).trans (V_arg1 m c))),
      ((h c).1 1).trans (((dats 0 c).arrAt_in 1 rfl _).trans ((hA c 1).trans (V_arg2 m c))),
      ((h c).2 main_arg3 (by decide : main_arg3 ∈ Pipeline.restRefs sig spec0)).trans (V_arg3 m c),
      ((h c).1 3).trans (((dats 0 c).arrAt_in 3 rfl _).trans ((hA c 3).trans (V_arg4 m c))),
      ((h c).2 main_arg5 (by decide : main_arg5 ∈ Pipeline.restRefs sig spec0)).trans (V_arg5 m c)⟩) h

/-- Window 0's current buffer. -/
abbrev ms0 (hO : Ok m) (t : Fin (cfgM m hO).N) : Memref sig .tc .vmem S4096x128 .i32 := spec0_0.stage ((cfgM m hO).slots t 0)
/-- It is whole. -/
abbrev hs0 (hO : Ok m) (t : Fin (cfgM m hO).N) : (ms0 m hO t).IsWhole := hstage0_0 (((cfgM m hO).slots t 0).cast nbuf0_0)
/-- Window 1's current buffer. -/
abbrev ms1 (hO : Ok m) (t : Fin (cfgM m hO).N) : Memref sig .tc .vmem S1x2048x512 .f32 := spec0_1.stage ((cfgM m hO).slots t 1)
/-- It is whole. -/
abbrev hs1 (hO : Ok m) (t : Fin (cfgM m hO).N) : (ms1 m hO t).IsWhole := hstage0_1 (((cfgM m hO).slots t 1).cast nbuf0_1)
/-- Window 2's current buffer. -/
abbrev ms2 (hO : Ok m) (t : Fin (cfgM m hO).N) : Memref sig .tc .vmem S1x1x512 .f32 := spec0_2.stage ((cfgM m hO).slots t 2)
/-- It is whole. -/
abbrev hs2 (hO : Ok m) (t : Fin (cfgM m hO).N) : (ms2 m hO t).IsWhole := hstage0_2 (((cfgM m hO).slots t 2).cast nbuf0_2)
/-- Window 3's current buffer. -/
abbrev ms3 (hO : Ok m) (t : Fin (cfgM m hO).N) : Memref sig .tc .vmem S1x2048x512 .f32 := spec0_3.stage ((cfgM m hO).slots t 3)
/-- It is whole. -/
abbrev hs3 (hO : Ok m) (t : Fin (cfgM m hO).N) : (ms3 m hO t).IsWhole := hstage0_3 (((cfgM m hO).slots t 3).cast nbuf0_3)
/-- Window 4's current buffer. -/
abbrev ms4 (hO : Ok m) (t : Fin (cfgM m hO).N) : Memref sig .tc .vmem S1x1x512 .f32 := spec0_4.stage ((cfgM m hO).slots t 4)
/-- It is whole. -/
abbrev hs4 (hO : Ok m) (t : Fin (cfgM m hO).N) : (ms4 m hO t).IsWhole := hstage0_4 (((cfgM m hO).slots t 4).cast nbuf0_4)
/-- Window 5's current buffer. -/
abbrev ms5 (hO : Ok m) (t : Fin (cfgM m hO).N) : Memref sig .tc .vmem S512x512 .bf16 := spec0_5.stage ((cfgM m hO).slots t 5)
/-- It is whole. -/
abbrev hs5 (hO : Ok m) (t : Fin (cfgM m hO).N) : (ms5 m hO t).IsWhole := hstage0_5 (((cfgM m hO).slots t 5).cast nbuf0_5)

/-- The body at a point, on what the pipeline calls it with. -/
abbrev bodyAt0 (hO : Ok m) (t : Fin (cfgM m hO).N) : Prog (TpuEff nD τ sig (Elt F) Λ₀ .tc) PUnit :=
  cc0_expert_up (grid0.coords t) tbM htbM (ms0 m hO t) (hs0 m hO t) (ms1 m hO t) (hs1 m hO t) (ms2 m hO t) (hs2 m hO t) (ms3 m hO t) (hs3 m hO t) (ms4 m hO t) (hs4 m hO t) (ms5 m hO t) (hs5 m hO t) scG (Memref.isWhole_whole _) scU (Memref.isWhole_whole _)

/-! ## The points -/

/-- A point's column block. -/
theorem coord0 (t : Fin grid0.N) : (grid0.coords t 0).val = t.val / 296 % 4 := Pipeline.Grid.coords_val t 0 (by decide) rfl
/-- A point's tile. -/
theorem coord1 (t : Fin grid0.N) : (grid0.coords t 1).val = t.val / 1 % 296 := Pipeline.Grid.coords_val t 1 (by decide) rfl

/-- The tile's number. -/
theorem tile_val (i : grid0.Coords) : (tile i).val = (i 1).val := by
  show (BitVec.ofNat 32 (i 1).val).toNat = _
  have := (i 1).isLt
  have h : (i 1).val < 296 := this
  rw [BitVec.toNat_ofNat]; omega

/-- The number of the tile before. -/
theorem prev_val (i : grid0.Coords) (h0 : (i 1).val ≠ 0) : (prev i).val = (i 1).val - 1 := by
  obtain ⟨k, hk⟩ : ∃ k : Fin 296, k = i 1 := ⟨_, rfl⟩
  have H : ∀ k : Fin 296, k.val ≠ 0 → (Scalar.indexCast (Scalar.maxsi (Scalar.subi (BitVec.ofNat 32 k.val) 1#32) 0#32) : Index).toNat = k.val - 1 := by decide +kernel
  have := H k (by rw [hk]; exact h0)
  rw [hk] at this
  exact this

/-- Bits: where the first holds and its meet with the join of two others doesn't, neither of those holds. -/
theorem bits (b x y : BitVec 1) (h : Scalar.cmpi .ne (Scalar.extui b : BitVec 32) 0#32 = 1#1)
    (h' : ¬Scalar.cmpi .ne (Scalar.extui (Scalar.andi b (Scalar.ori x y)) : BitVec 32) 0#32 = 1#1) : x = 0#1 ∧ y = 0#1 := by
  revert b x y; decide

/-- A point whose tile holds rows and which brings in no weights has a tile before it, of the same expert. -/
theorem same_expert (i : grid0.Coords) (n e e' : BitVec 32) (hu : used i n) (hr : ¬reload i n e e') : (i 1).val ≠ 0 ∧ e = e' := by
  obtain ⟨h1, h2⟩ := bits _ _ _ hu hr
  constructor
  · intro h0
    rw [h0] at h1
    exact absurd h1 (by decide)
  · by_contra hne
    have : Scalar.cmpi .ne e e' = 1#1 := by
      show IntOp.cmpi .ne e e' = 1#1
      rw [WordCmp.cmpi_ne_eq, WordCmp.ofBool_decide_eq_one_iff]; exact hne
    rw [this] at h2
    exact absurd h2 (by decide)

/-- A tile holds rows when its number is below the count, as signed words. -/
theorem used_iff (i : grid0.Coords) (n : BitVec 32) : used i n ↔ ((i 1).val : Int) < n.toInt := by
  have h : (i 1).val < 296 := (i 1).isLt
  have hb : ∀ b : BitVec 1, Scalar.cmpi .ne (Scalar.extui b : BitVec 32) 0#32 = 1#1 ↔ b = 1#1 := by decide
  refine (hb _).trans ?_
  show IntOp.cmpi .slt (BitVec.ofNat 32 (i 1).val) n = 1#1 ↔ _
  rw [WordCmp.cmpi_slt_eq, WordCmp.ofBool_decide_eq_one_iff, WordCmp.toInt_ofNat_of_lt (by omega)]

/-- The word of the table an index map reads. -/
theorem at_word (c : Dev nD) (pf : pre0.Contents (Elt F)) (i : grid0.Coords) (h : ∀ a, (![(Scalar.indexCast (BitVec.ofNat 32 (i 1).val) : Index).toNat] : Fin 1 → Nat) a + S1.size a ≤ S297.size a) (h1 : S1.numel = 1) :
    pf.at 0 (Rect.unit (s := S297) ![(Scalar.indexCast (BitVec.ofNat 32 (i 1).val) : Index).toNat] S1.size h) h1 = word c (pf 0) (tile i) := by
  refine congrArg (pf 0) (funext fun a => Fin.ext ?_)
  obtain rfl : a = (0 : Fin 1) := Subsingleton.elim (α := Fin 1) _ _
  rfl

/-- The gate weights' block index at a point. -/
theorem index1 (hO : Ok m) (c : Dev nD) (t : Fin (cfgM m hO).N) :
    ((cfgM m hO).win 1).index t = ![(word c (tbl m 0) (tile (grid0.coords t))).toNat, 0, (BitVec.ofNat 32 (grid0.coords t 0).val).toNat] := by
  show ![_, _, _] = _
  exact congrArg (fun w : BitVec 32 => (![w.toNat, 0, (BitVec.ofNat 32 (grid0.coords t 0).val).toNat] : Fin 3 → Nat)) (at_word c (tbl m) (grid0.coords t) _ _)

/-- The up weights' block index at a point. -/
theorem index3 (hO : Ok m) (c : Dev nD) (t : Fin (cfgM m hO).N) :
    ((cfgM m hO).win 3).index t = ![(word c (tbl m 0) (tile (grid0.coords t))).toNat, 0, (BitVec.ofNat 32 (grid0.coords t 0).val).toNat] := by
  show ![_, _, _] = _
  exact congrArg (fun w : BitVec 32 => (![w.toNat, 0, (BitVec.ofNat 32 (grid0.coords t 0).val).toNat] : Fin 3 → Nat)) (at_word c (tbl m) (grid0.coords t) _ _)

/-! ## What the buffers hold -/

/-- Whether a point's tile holds rows. -/
abbrev usedAt (c : Dev nD) (t : Fin grid0.N) : Prop := used (grid0.coords t) (word c (tbl m 0) 296)

/-- Whether a point brings in weights. -/
abbrev reloadAt (c : Dev nD) (t : Fin grid0.N) : Prop :=
  reload (grid0.coords t) (word c (tbl m 0) 296) (word c (tbl m 0) (tile (grid0.coords t))) (word c (tbl m 0) (prev (grid0.coords t)))

/-- The output's block after the body. -/
def outAt (hO : Ok m) (c : Dev nD) (t : Fin (cfgM m hO).N) : FVec F S512x512 .bf16 :=
  stored (usedAt m c t) (block (iblk m hO c 0 t) (k0_pay1 (iblk m hO c 1 t)) (iblk m hO c 2 t) (k0_pay2 (iblk m hO c 3 t)) (iblk m hO c 4 t))

/-- The kept weights before a position are those of the point before, where its tile holds rows. -/
def Kept (hO : Ok m) (c : Dev nD) (n : ℕ) (d9 d10 : Vec F S2048x512 .bf16) : Prop :=
  ∀ t : Fin (cfgM m hO).N, t.val + 1 = n → usedAt m c t → d9 = k0_pay1 (iblk m hO c 1 t) ∧ d10 = k0_pay2 (iblk m hO c 3 t)

/-- The region's invariant before a position. -/
def PhiS (hO : Ok m) (c : Dev nD) (n : ℕ) : sProp 𝕄 :=
  iprop((∃ d9 d10, ⌜Kept m hO c n d9 d10⌝ ∗ owns (c : Thread nD τ) scG fullShare d9 ∗ owns (c : Thread nD τ) scU fullShare d10) ∗ (∃ r, prngReg c r) ∗ tbPt c tbM (tbl m 0))

/-- The pipeline's proof data. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := PhiS m hO c t.val
  q _ := fullShare
  owed _ := 0

/-- The arrays are what the region finds. -/
theorem A_eq (hO : Ok m) (c : Dev nD) (w : Fin (cfgM m hO).W) : (dats m hO 0 c).A w = V m c (Pipeline.arrRef spec0 w) := by
  dsimp only [dats]

/-- Input 0's buffer after the body: its block. -/
theorem after0 (hO : Ok m) (c : Dev nD) (t : Fin (cfgM m hO).N) : (dats m hO 0 c).after 0 t = iblk m hO c 0 t := by dsimp only [dats]; try rfl
/-- Input 0's buffer before the body: its block. -/
theorem before0 (hO : Ok m) (c : Dev nD) (t : Fin (cfgM m hO).N) (d) : (dats m hO 0 c).before 0 t d = iblk m hO c 0 t :=
  before0_0_of m hO (dats m hO 0 c) (A_eq m hO c 0) (after0 m hO c) t d
/-- Input 1's buffer after the body: its block. -/
theorem after1 (hO : Ok m) (c : Dev nD) (t : Fin (cfgM m hO).N) : (dats m hO 0 c).after 1 t = iblk m hO c 1 t := by dsimp only [dats]; try rfl
/-- Input 1's buffer before the body: its block. -/
theorem before1 (hO : Ok m) (c : Dev nD) (t : Fin (cfgM m hO).N) (d) : (dats m hO 0 c).before 1 t d = iblk m hO c 1 t :=
  before0_1_of m hO (dats m hO 0 c) (A_eq m hO c 1) (after1 m hO c) t d
/-- Input 2's buffer after the body: its block. -/
theorem after2 (hO : Ok m) (c : Dev nD) (t : Fin (cfgM m hO).N) : (dats m hO 0 c).after 2 t = iblk m hO c 2 t := by dsimp only [dats]; try rfl
/-- Input 2's buffer before the body: its block. -/
theorem before2 (hO : Ok m) (c : Dev nD) (t : Fin (cfgM m hO).N) (d) : (dats m hO 0 c).before 2 t d = iblk m hO c 2 t :=
  before0_2_of m hO (dats m hO 0 c) (A_eq m hO c 2) (after2 m hO c) t d
/-- Input 3's buffer after the body: its block. -/
theorem after3 (hO : Ok m) (c : Dev nD) (t : Fin (cfgM m hO).N) : (dats m hO 0 c).after 3 t = iblk m hO c 3 t := by dsimp only [dats]; try rfl
/-- Input 3's buffer before the body: its block. -/
theorem before3 (hO : Ok m) (c : Dev nD) (t : Fin (cfgM m hO).N) (d) : (dats m hO 0 c).before 3 t d = iblk m hO c 3 t :=
  before0_3_of m hO (dats m hO 0 c) (A_eq m hO c 3) (after3 m hO c) t d
/-- Input 4's buffer after the body: its block. -/
theorem after4 (hO : Ok m) (c : Dev nD) (t : Fin (cfgM m hO).N) : (dats m hO 0 c).after 4 t = iblk m hO c 4 t := by dsimp only [dats]; try rfl
/-- Input 4's buffer before the body: its block. -/
theorem before4 (hO : Ok m) (c : Dev nD) (t : Fin (cfgM m hO).N) (d) : (dats m hO 0 c).before 4 t d = iblk m hO c 4 t :=
  before0_4_of m hO (dats m hO 0 c) (A_eq m hO c 4) (after4 m hO c) t d
/-- The output's buffer after the body. -/
theorem after5 (hO : Ok m) (c : Dev nD) (t : Fin (cfgM m hO).N) : (dats m hO 0 c).after 5 t = outAt m hO c t := by dsimp only [dats]; try rfl

/-- Window 1's block is one at two points with one block index. -/
theorem iblk1_congr (hO : Ok m) (c : Dev nD) (t t' : Fin (cfgM m hO).N) (h : ((cfgM m hO).win 1).index t = ((cfgM m hO).win 1).index t') :
    (iblk m hO c 1 t : Vec F S1x2048x512 .f32) = iblk m hO c 1 t' := by
  have e : ∀ t, (dats m hO 0 c).fetched 1 t (iblk m hO c 1 t) = iblk m hO c 1 t := fun t => by
    unfold Dat.fetched Dat.blockOf iblk; rw [A_eq]; try rfl
  have e' : ∀ t d, (dats m hO 0 c).fetched 1 t d = iblk m hO c 1 t := fun t d => by
    unfold Dat.fetched Dat.blockOf iblk; rw [A_eq]; try rfl
  exact (e' t (iblk m hO c 1 t)).symm.trans (((dats m hO 0 c).fetched_congr 1 h rfl _).trans (e' t' _))

/-- Window 3's block is one at two points with one block index. -/
theorem iblk3_congr (hO : Ok m) (c : Dev nD) (t t' : Fin (cfgM m hO).N) (h : ((cfgM m hO).win 3).index t = ((cfgM m hO).win 3).index t') :
    (iblk m hO c 3 t : Vec F S1x2048x512 .f32) = iblk m hO c 3 t' := by
  have e : ∀ t, (dats m hO 0 c).fetched 3 t (iblk m hO c 3 t) = iblk m hO c 3 t := fun t => by
    unfold Dat.fetched Dat.blockOf iblk; rw [A_eq]; try rfl
  have e' : ∀ t d, (dats m hO 0 c).fetched 3 t d = iblk m hO c 3 t := fun t d => by
    unfold Dat.fetched Dat.blockOf iblk; rw [A_eq]; try rfl
  exact (e' t (iblk m hO c 3 t)).symm.trans (((dats m hO 0 c).fetched_congr 3 h rfl _).trans (e' t' _))

/-- The kept weights after a point. -/
theorem kept_step (hO : Ok m) (c : Dev nD) (t : Fin (cfgM m hO).N) (d9 d10 : Vec F S2048x512 .bf16) (h : Kept m hO c t.val d9 d10) :
    Kept m hO c (t.val + 1) (keep (reloadAt m c t) (k0_pay1 (iblk m hO c 1 t)) d9) (keep (reloadAt m c t) (k0_pay2 (iblk m hO c 3 t)) d10) := by
  intro t' ht' hu
  obtain rfl : t' = t := Fin.ext (by omega)
  by_cases hr : reloadAt m c t'
  · unfold keep; rw [if_pos hr, if_pos hr]; exact ⟨rfl, rfl⟩
  · unfold keep; rw [if_neg hr, if_neg hr]
    obtain ⟨h0, he⟩ := same_expert _ _ _ _ hu hr
    have c0 := coord0 t'
    have c1 := coord1 t'
    have hN : t'.val < 1184 := lt_of_lt_of_eq t'.isLt N_0
    have hp : t'.val - 1 < (cfgM m hO).N := lt_of_le_of_lt (Nat.sub_le _ _) t'.isLt
    have p0 := coord0 ⟨t'.val - 1, hp⟩
    have p1 := coord1 ⟨t'.val - 1, hp⟩
    dsimp only at p0 p1
    have q0 : (grid0.coords ⟨t'.val - 1, hp⟩ 0).val = (grid0.coords t' 0).val := by omega
    have q1 : (grid0.coords ⟨t'.val - 1, hp⟩ 1).val = (grid0.coords t' 1).val - 1 := by omega
    have hw : word c (tbl m 0) (tile (grid0.coords ⟨t'.val - 1, hp⟩)) = word c (tbl m 0) (tile (grid0.coords t')) := by
      rw [he]
      exact congrArg (word c (tbl m 0)) (Fin.ext ((tile_val _).trans (q1.trans (prev_val _ h0).symm)))
    have hu' : usedAt m c ⟨t'.val - 1, hp⟩ := by
      have := (used_iff _ _).mp hu
      refine (used_iff _ _).mpr ?_
      omega
    obtain ⟨r1, r2⟩ := h ⟨t'.val - 1, hp⟩ (by show t'.val - 1 + 1 = t'.val; omega) hu'
    refine ⟨r1.trans (congrArg k0_pay1 (iblk1_congr m hO c _ _ ?_)), r2.trans (congrArg k0_pay2 (iblk3_congr m hO c _ _ ?_))⟩
    · rw [index1 m hO c, index1 m hO c, hw, q0]
    · rw [index3 m hO c, index3 m hO c, hw, q0]

/-- What the body stores is the output's block, whatever the kept weights, as long as they are those of the point before. -/
theorem stored_eq (hO : Ok m) (c : Dev nD) (t : Fin (cfgM m hO).N) (d9 d10 : Vec F S2048x512 .bf16) (h : Kept m hO c t.val d9 d10) :
    stored (usedAt m c t) (block (iblk m hO c 0 t) (keep (reloadAt m c t) (k0_pay1 (iblk m hO c 1 t)) d9) (iblk m hO c 2 t) (keep (reloadAt m c t) (k0_pay2 (iblk m hO c 3 t)) d10) (iblk m hO c 4 t))
      = outAt m hO c t := by
  unfold outAt
  by_cases hu : usedAt m c t
  · obtain ⟨r1, r2⟩ := kept_step m hO c t d9 d10 h t rfl hu
    rw [r1, r2]
  · unfold stored; rw [if_neg hu, if_neg hu]

end Cert.Kernel5Ideal.Up

end
-- ==== Proof.M.UpFrame.lean ====
/- The experts' up-projection kernel: its whole run, for every table whose blocks lie inside their arrays. Over any float values. -/
module

public import proofs.«01_k».proof.Proof.M.UpInv
public import Idealize.ShloMosaic.Lib.Claim

@[expose] public section

set_option maxRecDepth 16384

noncomputable section

namespace Cert.Kernel5Ideal.Up

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Whatever the table and the point, the body stores the output's block. -/
theorem idle5 (pf : pre0.Contents (Elt F)) (i : grid0.Coords) : idle0 pf 5 i = false := by
  show (!(k0_cond2 i (pf.atD 0 ![296]) == 1#1) && !(k0_cond3 i (pf.atD 0 ![296]) == 1#1)) = false
  generalize pf.atD 0 ![296] = n
  by_cases h : used i n
  · rw [show k0_cond2 i n = 1#1 from h]; rfl
  · rw [cond3_of i n h]; exact Bool.and_false _

/-- The output's window is live at every point. -/
theorem live5 (a : (pcfg0 (F := F)).Adm) (i : (cfg0 a).grid.Coords) : (cfg0 a).idle 5 i = false := idle5 a.1 i

/-- What the body must leave in the output's buffer. -/
theorem leaves5 (hO : Ok m) (c : Dev nD) (t : Fin (cfgM m hO).N) :
    (dats m hO 0 c).leavesExact 5 t = owns (c : Thread nD τ) (ms5 m hO t) fullShare ((dats m hO 0 c).after 5 t) := by
  unfold Dat.leavesExact; rw [live5 (adm m hO)]; try rfl

/-- The invariant at a position. -/
theorem Phi_eq (hO : Ok m) (c : Dev nD) (t : Fin ((cfgM m hO).N + 1)) : (dats m hO 0 c).Φ t = PhiS m hO c t.val := by dsimp only [dats]

/-! ## The body at any point -/

/-- What the body is called with at a point. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

/-- What it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ (dats m hO 0 c).leavesExact 5 t)

set_option maxHeartbeats 1600000 in
/-- The body at any point takes what it is called with to what it returns. -/
theorem sound_body (hO : Ok m) (c : Dev nD) (t : Fin (cfgM m hO).N) :
    bodyPre m hO c t ⊢ wp frame (wpE (defs₀ (F := F)) Variants.none c none) Set.univ (bodyAt0 m hO t) (fun _ => bodyPost m hO c t) := by
  unfold bodyPre bodyPost bodyAt0
  rw [leaves5 m hO c t]
  simp only [before0, before1, before2, before3, before4]
  rw [show (dats m hO 0 c).owesAt () t.succ = (dats m hO 0 c).owesAt () t.castSucc from rfl,
    after0, after1, after2, after3, after4, after5]
  rw [Phi_eq, Phi_eq, Fin.val_succ, Fin.val_castSucc]
  unfold PhiS
  iintro ⟨⟨⟨%d9, %d10, %hk, HG, HU⟩, Hg, HT⟩, Ho, ⟨%d0, H0⟩, ⟨%d1, H1⟩, ⟨%d2, H2⟩, ⟨%d3, H3⟩, ⟨%d4, H4⟩, ⟨%d5, H5⟩⟩
  iapply (run c (grid0.coords t) _ (hs0 m hO t) _ (hs1 m hO t) _ (hs2 m hO t) _ (hs3 m hO t) _ (hs4 m hO t) _ (hs5 m hO t) _ _ _ _ (iblk m hO c 0 t) (iblk m hO c 1 t) (iblk m hO c 2 t) (iblk m hO c 3 t) (iblk m hO c 4 t) d9 d10 (tbl m 0) Set.univ _)
  isplitl [H0]; · iexact H0
  isplitl [H1]; · iexact H1
  isplitl [H2]; · iexact H2
  isplitl [H3]; · iexact H3
  isplitl [H4]; · iexact H4
  isplitl [H5]; · iexists _; iexact H5
  isplitl [HG]; · iexact HG
  isplitl [HU]; · iexact HU
  isplitl [HT]; · iexact HT
  rw [stored_eq m hO c t d9 d10 hk]
  iintro ⟨H0, H1, H2, H3, H4, H5, HG, HU, HT⟩
  isplitl [HG HU Hg HT]
  · isplitl [HG HU]
    · iexists _; iexists _
      isplitr
      · ipureintro; exact kept_step m hO c t d9 d10 hk
      isplitl [HG]; · iexact HG
      iexact HU
    isplitl [Hg]; · iexact Hg
    iexact HT
  isplitl [Ho]; · iexact Ho
  isplitl [H0]; · iexact H0
  isplitl [H1]; · iexact H1
  isplitl [H2]; · iexact H2
  isplitl [H3]; · iexact H3
  isplitl [H4]; · iexact H4
  iexact H5

/-- The body the pipeline calls at a point. -/
theorem defs₀_row (hO : Ok m) (t : Fin (cfgM m hO).N) :
    defs₀ (F := F) .tc (cfgM m hO).body ((cfgM m hO).bodyArgs t ((cfgM m hO).slots t)) = bodyAt0 m hO t := by
  unfold defs₀; rw [Defs.onTc_tc]

attribute [local irreducible] tbl in
set_option maxHeartbeats 800000 in
/-- The body meets the proof data at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is the invariant before the first point. -/
theorem hin (hO : Ok m) (c : Dev nD) : iprop(Pipeline.ΦA spec0 c ∗ Pipeline.ΦT pre0 (tbl m) c) ⊢ (dats m hO 0 c).Φ 0 := by
  rw [Phi_eq, Fin.val_zero, PhiA_eq, PhiT0_eq]
  unfold PhiS
  iintro ⟨⟨⟨⟨%d9, HG⟩, ⟨%d10, HU⟩⟩, Hg⟩, HT⟩
  isplitl [HG HU]
  · iexists d9; iexists d10
    isplitr
    · ipureintro; intro t ht; omega
    isplitl [HG]; · iexact HG
    iexact HU
  isplitl [Hg]; · iexact Hg
  iexact HT

/-- After the last point the invariant gives back what the launch handed over. -/
theorem hout (hO : Ok m) (c : Dev nD) : (dats m hO 0 c).Φ (Fin.last (cfgM m hO).N) ⊢ Pipeline.ΦA spec0 c := by
  rw [Phi_eq, PhiA_eq]
  unfold PhiS
  iintro ⟨⟨%d9, %d10, -, HG, HU⟩, Hg, -⟩
  isplitl [HG HU]
  · isplitl [HG]; · iexists _; iexact HG
    iexists _; iexact HU
  iexact Hg

/-! ## The run -/

set_option maxHeartbeats 1600000 in
set_option backward.isDefEq.respectTransparency.types false in
/-- The run, ending with every semaphore counter at zero. -/
theorem run_main_quiescent (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The run: every array ends at what the proof data says. -/
theorem run_main (hO : Ok m) : θ_run defs (onTc (τ := τ) (main (F := F))) (s₀ m ρ)
    (Pipeline.FramePost (Pipeline.pin pcfgs fun _ => adm m hO) (dats m hO) 0 (V m)) :=
  (θ_run defs _ _).mono (fun _ h => h.1) (run_main_quiescent m ρ hO)

/-- The frame: the arguments end as they began, and every semaphore counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ hO (dats m hO) (A_eq m hO) (run_main m ρ hO)) ((θ_run defs _ _).mono (fun _ h => h.2) (run_main_quiescent m ρ hO))

end Cert.Kernel5Ideal.Up

end
-- ==== Proof.M.UpRef.lean ====
/- The experts' up-projection as the reference computes it, entry by entry. -/
module

public import proofs.«01_k».proof.Proof.Gen.Reference5Ideal.Run
public import proofs.«01_k».proof.Proof.M.NormSpec
public import Idealize.ShloMosaic.Lib.Pipeline.ReadBack

@[expose] public section

set_option maxRecDepth 16384

noncomputable section

open Idealize.ShloMosaic Idealize.ShloMosaic.TcCoe Idealize.SL.Sem

namespace Cert.Reference5Ideal.Up

open Cert.Reference5Ideal Cert.Reference5Ideal.Gen

section AnyValues

variable {F : FTy → Type} [FloatOps F]

/-- The words, a token's row each. -/
def words (xs : IVec S1212416x128 32) : IVec S151552x1024 32 := shapeCast _ xs shapeCasts_S1212416x128_S151552x1024

/-- The tokens' rows: the words' low halves, then their high halves. -/
def rows (xs : IVec S1212416x128 32) : FVec F S296x512x2048 .f32 :=
  shapeCast _ (concatenate S151552x2048 1
    [⟨S151552x1024, (bitcastToFloat (F := F) .f32 (Host.shli (words xs) (broadcastInDim S151552x1024 ![] bcast_S_S151552x1024 (constantI S_ 32 16#32))))⟩,
     ⟨S151552x1024, (bitcastToFloat (F := F) .f32 (andi (words xs) (broadcastInDim S151552x1024 ![] bcast_S_S151552x1024 (constantI S_ 32 4294901760#32))))⟩]
    concatenates_S151552x1024_S151552x1024_S151552x2048_d1) shapeCasts_S151552x2048_S296x512x2048

/-- How many rows each expert takes, plus what rounds a division by 512 up. -/
def padded (cnt : IVec S32 32) : IVec S32 32 :=
  subi (addi cnt (broadcastInDim S32 ![] bcast_S_S32 (constantI S_ 32 512#32))) (broadcastInDim S32 ![] bcast_S_S32 (constantI S_ 32 1#32))

/-- How many tiles each expert takes. -/
def tilesPer (cnt : IVec S32 32) : IVec S32 32 :=
  select (andi (cmpi .ne (signi (padded cnt)) (broadcastInDim S32 ![] bcast_S_S32 (signi (id (constantI S_ 32 512#32)))))
      (cmpi .ne (Host.remsi (padded cnt) (broadcastInDim S32 ![] bcast_S_S32 (id (constantI S_ 32 512#32)))) (broadcastInDim S32 ![] bcast_S_S32 (constantI S_ 32 0#32))))
    (subi (Host.divsi (padded cnt) (broadcastInDim S32 ![] bcast_S_S32 (id (constantI S_ 32 512#32)))) (broadcastInDim S32 ![] bcast_S_S32 (constantI S_ 32 1#32)))
    (Host.divsi (padded cnt) (broadcastInDim S32 ![] bcast_S_S32 (id (constantI S_ 32 512#32))))

/-- The tile at which each expert's tiles end. -/
def ends (cnt : IVec S32 32) : IVec S32 32 :=
  Host.reduceWindow IntOp.addi ![32] ![1] ![31] ![0] (tilesPer cnt) (broadcastInDim S_ ![] bcast_S_S_ (constantI S_ 32 0#32)) reduceWindows_S32_S32_w32s1p31_0 h_S_

/-- The tiles' experts: how many experts' tiles end at or before a tile. -/
def te0 (cnt : IVec S32 32) : IVec S296 32 :=
  minsi (Host.reduce IntOp.addi (extui 32 (cmpi .sle (broadcastInDim S296x32 ![0, 1] bcast_S1x32_S296x32_0_1 (broadcastInDim S1x32 ![1] bcast_S32_S1x32_1 (ends cnt)))
      (broadcastInDim S296x32 ![0, 1] bcast_S296x1_S296x32_0_1 (broadcastInDim S296x1 ![0] bcast_S296_S296x1_0 (iotaInDim S296 32 0)))) natLt_1_32)
    (constantI S_ 32 0#32) reducesTo_S296x32_S296_d1 h_S_) (broadcastInDim S296 ![] bcast_S_S296 (constantI S_ 32 31#32))

/-- How many tiles hold rows. -/
def total (cnt : IVec S32 32) : IVec S_ 32 := shapeCast _ (extractStridedSlice S1 ![31] (ends cnt) slices_S32_S1_31) shapeCasts_S1_S_

/-- The tiles' experts, a negative one counted from the end. -/
def experts (te : IVec S296 32) : IVec S296x1 32 :=
  broadcastInDim S296x1 ![0] bcast_S296_S296x1_0 (select (cmpi .slt te (broadcastInDim S296 ![] bcast_S_S296 (constantI S_ 32 0#32)))
    (addi te (broadcastInDim S296 ![] bcast_S_S296 (constantI S_ 32 32#32))) te)

/-- The tiles' weights. -/
def weights (te : IVec S296 32) (w : FVec F S32x2048x2048 .f32) : FVec F S296x2048x2048 .f32 :=
  Host.gather gather_S32x2048x2048_S296x1_S296x2048x2048_12_0_n_n_0_1_120482048 w (experts te)

/-- The tiles' biases. -/
def biases (te : IVec S296 32) (b : FVec F S32x2048 .f32) : FVec F S296x2048 .f32 :=
  Host.gather gather_S32x2048_S296x1_S296x2048_1_0_n_n_0_1_12048 b (experts te)

/-- One projection of the tokens, each by its tile's expert. -/
def lin (te : IVec S296 32) (xs : IVec S1212416x128 32) (w : FVec F S32x2048x2048 .f32) (b : FVec F S32x2048 .f32) : FVec F S296x512x2048 .f32 :=
  addf (Host.dotGeneral dot_S296x512x2048_S296x2048x2048_S296x512x2048_2_1_1_2_0_0 none (rows xs) (weights te w))
    (broadcastInDim S296x512x2048 ![0, 1, 2] bcast_S296x1x2048_S296x512x2048_0_1_2 (broadcastInDim S296x1x2048 ![0, 2] bcast_S296x2048_S296x1x2048_0_2 (biases te b)))

/-- The gate, cut off above. -/
def gt (te : IVec S296 32) (xs : IVec S1212416x128 32) (w : FVec F S32x2048x2048 .f32) (b : FVec F S32x2048 .f32) : FVec F S296x512x2048 .f32 :=
  minimumf (lin te xs w b) (broadcastInDim S296x512x2048 ![] bcast_S_S296x512x2048 (constant S_ .f32 0x40E00000#32))

/-- The gate times its logistic function. -/
def act (te : IVec S296 32) (xs : IVec S1212416x128 32) (w : FVec F S32x2048x2048 .f32) (b : FVec F S32x2048 .f32) : FVec F S296x512x2048 .f32 :=
  mulf (gt te xs w b) (Host.divf (broadcastInDim S296x512x2048 ![] bcast_S_S296x512x2048 (constant S_ .f32 0x3F800000#32))
    (addf (broadcastInDim S296x512x2048 ![] bcast_S_S296x512x2048 (constant S_ .f32 0x3F800000#32))
      (Host.exp (Host.negf (mulf (broadcastInDim S296x512x2048 ![] bcast_S_S296x512x2048 (constant S_ .f32 0x3FD9DB23#32)) (gt te xs w b))))))

/-- The other projection, cut off on both sides, plus one. -/
def up1 (te : IVec S296 32) (xs : IVec S1212416x128 32) (w : FVec F S32x2048x2048 .f32) (b : FVec F S32x2048 .f32) : FVec F S296x512x2048 .f32 :=
  addf (minimumf (broadcastInDim S296x512x2048 ![] bcast_S_S296x512x2048 (id (constant S_ .f32 0x40E00000#32)))
    (maximumf (broadcastInDim S296x512x2048 ![] bcast_S_S296x512x2048 (id (constant S_ .f32 0xC0E00000#32))) (lin te xs w b)))
    (broadcastInDim S296x512x2048 ![] bcast_S_S296x512x2048 (constant S_ .f32 0x3F800000#32))

/-- Which tiles hold tokens. -/
def inUse (n : IVec S_ 32) : IVec S296x1x1 1 :=
  broadcastInDim S296x1x1 ![0] bcast_S296_S296x1x1_0 (cmpi .slt (iotaInDim S296 32 0)
    (broadcastInDim S296 ![] bcast_S_S296 n))

/-- The reference's result. -/
def out (te : IVec S296 32) (n : IVec S_ 32) (xs : IVec S1212416x128 32) (wg : FVec F S32x2048x2048 .f32) (bg : FVec F S32x2048 .f32)
    (wu : FVec F S32x2048x2048 .f32) (bu : FVec F S32x2048 .f32) : FVec F S151552x2048 .bf16 :=
  shapeCast _ (truncf .bf16 (select (broadcastInDim S296x512x2048 ![0, 1, 2] bcast_S296x1x1_S296x512x2048_0_1_2 (inUse n))
    (mulf (act te xs wg bg) (up1 te xs wu bu)) (broadcastInDim S296x512x2048 ![] bcast_S_S296x512x2048 (id (constant S_ .f32 0x00000000#32)))) bitsLt_bf16_f32)
    shapeCasts_S296x512x2048_S151552x2048

/-- The reference's result, from the memory it starts in. -/
theorem res_eq (m : (ℓ : Loc nD τ sig) → Buf (Elt F) ℓ) (c : Dev nD) :
    Value.res_main_v83 m c = out (F := F) (te0 (m ((c.tc : Thread nD τ).loc main_arg0))) (total (m ((c.tc : Thread nD τ).loc main_arg0))) (m ((c.tc : Thread nD τ).loc main_arg1))
      (m ((c.tc : Thread nD τ).loc main_arg2)) (m ((c.tc : Thread nD τ).loc main_arg3)) (m ((c.tc : Thread nD τ).loc main_arg4)) (m ((c.tc : Thread nD τ).loc main_arg5)) := rfl

end AnyValues

end Cert.Reference5Ideal.Up

end
-- ==== Proof.M.UpTab.lean ====
/- The experts' up-projection kernel: the table its host code makes of the experts' counts. -/
module

public import proofs.«01_k».proof.Proof.M.UpInv
public import proofs.«01_k».proof.Proof.M.UpRef
public import proofs.«01_k».proof.Proof.M.NormSpec
public import Idealize.ShloMosaic.Lib.Pipeline.ReadBack

@[expose] public section

set_option maxRecDepth 16384

noncomputable section

open Idealize.ShloMosaic Idealize.ShloMosaic.TcCoe Idealize.SL.Sem

namespace Cert.Kernel5Ideal.Up

open Cert.Kernel5Ideal Cert.Kernel5Ideal.Gen

/-- How many rows each expert takes, plus what rounds a division by 512 up. -/
def padded (cnt : IVec S32 32) : IVec S32 32 :=
  subi (addi cnt (broadcastInDim S32 ![] bcast_S_S32 (constantI S_ 32 512#32))) (broadcastInDim S32 ![] bcast_S_S32 (constantI S_ 32 1#32))

/-- How many tiles each expert takes. -/
def tilesPer (cnt : IVec S32 32) : IVec S32 32 :=
  select (andi (cmpi .ne (signi (padded cnt)) (broadcastInDim S32 ![] bcast_S_S32 (signi (id (constantI S_ 32 512#32)))))
      (cmpi .ne (Host.remsi (padded cnt) (broadcastInDim S32 ![] bcast_S_S32 (id (constantI S_ 32 512#32)))) (broadcastInDim S32 ![] bcast_S_S32 (constantI S_ 32 0#32))))
    (subi (Host.divsi (padded cnt) (broadcastInDim S32 ![] bcast_S_S32 (id (constantI S_ 32 512#32)))) (broadcastInDim S32 ![] bcast_S_S32 (constantI S_ 32 1#32)))
    (Host.divsi (padded cnt) (broadcastInDim S32 ![] bcast_S_S32 (id (constantI S_ 32 512#32))))

/-- The tile at which each expert's tiles end. -/
def ends (cnt : IVec S32 32) : IVec S32 32 :=
  Host.reduceWindow IntOp.addi ![32] ![1] ![31] ![0] (tilesPer cnt) (broadcastInDim S_ ![] bcast_S_S_ (constantI S_ 32 0#32)) reduceWindows_S32_S32_w32s1p31_0 h_S_

/-- The tiles' experts: how many experts' tiles end at or before a tile. -/
def te (cnt : IVec S32 32) : IVec S296 32 :=
  minsi (Host.reduce IntOp.addi (extui 32 (cmpi .sle (broadcastInDim S296x32 ![0, 1] bcast_S1x32_S296x32_0_1 (broadcastInDim S1x32 ![1] bcast_S32_S1x32_1 (ends cnt)))
      (broadcastInDim S296x32 ![0, 1] bcast_S296x1_S296x32_0_1 (broadcastInDim S296x1 ![0] bcast_S296_S296x1_0 (iotaInDim S296 32 0)))) natLt_1_32)
    (constantI S_ 32 0#32) reducesTo_S296x32_S296_d1 h_S_) (broadcastInDim S296 ![] bcast_S_S296 (constantI S_ 32 31#32))

/-- The table: the tiles' experts, then how many tiles hold rows. -/
def tab (cnt : IVec S32 32) : IVec S297 32 :=
  concatenate S297 0 [⟨S296, te cnt⟩, ⟨S1, extractStridedSlice S1 ![31] (ends cnt) slices_S32_S1_31⟩] concatenates_S296_S1_S297_d0

/-- A tile's word of the table is its expert. -/
theorem tab_at (cnt : IVec S32 32) (i : Fin 296) : tab cnt (ix1 ⟨i.val, by omega⟩) = te cnt (ix1 i) := by
  pointwise [tab]

/-- The table's last word is the count of the tiles. -/
theorem tab_last (cnt : IVec S32 32) : tab cnt (ix1 296) = ends cnt (ix1 31) := by
  pointwise [tab]

/-- The reference's tiles' experts are the kernel's. -/
theorem te_ref (cnt : IVec S32 32) : Cert.Reference5Ideal.Up.te0 cnt = te cnt := rfl

/-- The reference's count of the tiles is the kernel's. -/
theorem total_ref (cnt : IVec S32 32) : Cert.Reference5Ideal.Up.total cnt Idealize.ShloMosaic.ix0 = ends cnt (ix1 31) := by
  show Cert.Reference5Ideal.Up.total cnt Idealize.ShloMosaic.ix0 = Cert.Reference5Ideal.Up.ends cnt (ix1 31)
  pointwise [Cert.Reference5Ideal.Up.total]

/-- A sum of words each 0 or 1 grows by at most one a word. -/
theorem foldl_le {ι : Type} (f : ι → BitVec 32) (hf : ∀ i, (f i).toNat ≤ 1) :
    ∀ (l : List ι) (a : BitVec 32), (l.foldl (fun r i => IntOp.addi r (f i)) a).toNat ≤ a.toNat + l.length
  | [], a => by simp
  | i :: l, a => by
    refine (foldl_le f hf l _).trans ?_
    have h : (IntOp.addi a (f i)).toNat ≤ a.toNat + (f i).toNat := by
      show (a + f i).toNat ≤ _
      rw [BitVec.toNat_add]
      exact Nat.mod_le _ _
    have := hf i
    rw [List.length_cons]
    show (IntOp.addi a (f i)).toNat + l.length ≤ _
    omega

/-- Every tile's word names one of the experts. -/
theorem te_names (cnt : IVec S32 32) (i : Fin 296) : 0 ≤ (te cnt (ix1 i)).toInt ∧ (te cnt (ix1 i)).toInt < 32 := by
  have hs : ∃ x : BitVec 32, x.toNat ≤ 9472 ∧ te cnt (ix1 i) = IntOp.minsi x 31#32 := by
    refine ⟨_, ?_, rfl⟩
    rw [Host.reduce_eq_foldl]
    refine (foldl_le _ (fun j => ?_) _ _).trans ?_
    · show (BitVec.zeroExtend 32 (cmpi .sle _ _ _)).toNat ≤ 1
      generalize cmpi .sle _ _ _ = b
      revert b
      decide
    · show 0 + _ ≤ 9472
      rw [Nat.zero_add]
      refine (List.length_filter_le _ _).trans ?_
      rw [List.length_map, List.length_finRange]
      decide
  obtain ⟨x, hx, e⟩ := hs
  rw [e]
  have h0 : x.toInt = x.toNat := by rw [BitVec.toInt_eq_toNat_cond, if_pos (by omega)]
  have h31 : (31#32 : BitVec 32).toInt = 31 := rfl
  show 0 ≤ (if x.slt 31#32 then x else 31#32).toInt ∧ (if x.slt 31#32 then x else 31#32).toInt < 32
  rw [BitVec.slt_eq_decide]
  split_ifs with h
  · rw [decide_eq_true_iff] at h
    omega
  · omega

variable {F : FTy → Type} [FloatOps F] (m : (ℓ : Loc nD τ sig) → Buf (Elt F) ℓ)

/-- The table as the region finds it. -/
theorem V_tab (c : Dev nD) : V m c main_v17 = tab (m ((c : Thread nD τ).loc main_arg0)) := by
  simp only [V, hostOps0, hostOps0_1, hostOps0_2, hostOps0_3, List.flatten_cons, List.flatten_nil, List.cons_append, List.nil_append]
  entry_read
  simp only [StableHlo.TRef.toBuf, StableHlo.TRef.ofBuf, cast_eq]
  rfl

end Cert.Kernel5Ideal.Up

end
-- ==== Proof.M.UpOk.lean ====
/- Every block that the experts' up-projection's table names lies inside its array. -/
module

public import proofs.«01_k».proof.Proof.M.UpFrame
public import proofs.«01_k».proof.Proof.M.UpTab
public import Idealize.ShloMosaic.Lib.Pipeline.ReadBack

@[expose] public section

set_option maxRecDepth 16384

noncomputable section

open Idealize.ShloMosaic Idealize.ShloMosaic.TcCoe Idealize.SL.Sem

namespace Cert.Kernel5Ideal.Up

open Cert.Kernel5Ideal Cert.Kernel5Ideal.Gen

/-- Every tile's word names one of the experts. -/
def Names (te : IVec S297 32) : Prop := ∀ i : Fin 296, 0 ≤ (te (ix1 ⟨i.val, by omega⟩)).toInt ∧ (te (ix1 ⟨i.val, by omega⟩)).toInt < 32

/-- The table that the host code makes says so. -/
theorem names_tab (cnt : IVec S32 32) : Names (tab cnt) := fun i => by
  rw [tab_at]
  exact te_names cnt i

/-- A word that names an expert, unsigned. -/
theorem toNat_of (x : BitVec 32) (h : 0 ≤ x.toInt ∧ x.toInt < 32) : x.toNat = x.toInt.toNat ∧ x.toNat < 32 := by
  rw [BitVec.toInt_eq_toNat_cond] at h ⊢
  have := x.isLt
  split_ifs at h ⊢ <;> omega

variable {F : FTy → Type} [FloatOps F] (m : (ℓ : Loc nD τ sig) → Buf (Elt F) ℓ)

/-- The table, as the memory holds it. -/
theorem word_eq (c : Dev nD) (k : Fin 297) : word c (tbl m 0) k = tab (m ((c : Thread nD τ).loc main_arg0)) (ix1 k) := by
  rw [← V_pre m c 0]
  show V m c main_v17 (ixT k) = _
  rw [V_tab]
  refine congrArg (tab (m ((c : Thread nD τ).loc main_arg0))) (funext fun a => ?_)
  obtain rfl : a = (0 : Fin 1) := Subsingleton.elim (α := Fin 1) _ _
  rfl

/-- The word of a point's tile. -/
theorem word_lt (c : Dev nD) (i : grid0.Coords) : (word c (tbl m 0) (tile i)).toNat < 32 := by
  rw [word_eq]
  have hi : (i 1).val < 296 := (i 1).isLt
  have e : tile i = (⟨(⟨(i 1).val, hi⟩ : Fin 296).val, by omega⟩ : Fin 297) := Fin.ext (tile_val i)
  rw [e]
  exact (toNat_of _ (names_tab _ ⟨(i 1).val, hi⟩)).2

/-- The tile whose rows a point reads, at the table's count. -/
theorem sel_lt (b : BitVec 1) (i : grid0.Coords) : (Scalar.select b (BitVec.ofNat 32 (i 1).val) (0#32 : BitVec 32)).toNat < 296 := by
  have hi : (i 1).val < 296 := (i 1).isLt
  rcases BitVec.eq_zero_or_eq_one b with rfl | rfl
  · show (0#32 : BitVec 32).toNat < 296
    decide
  · show (BitVec.ofNat 32 (i 1).val).toNat < 296
    rw [BitVec.toNat_ofNat]; omega

/-- A column block's number, as a word. -/
theorem col_lt (i : grid0.Coords) : (BitVec.ofNat 32 (i 0).val).toNat < 4 := by
  have hi : (i 0).val < 4 := (i 0).isLt
  rw [BitVec.toNat_ofNat]; omega

attribute [local irreducible] tbl in
/-- Every block the table names lies inside its array. -/
theorem ok : Ok m := by
  have W : ∀ i, (word (0 : Dev nD) (tbl m 0) (tile i)).toNat < 32 := word_lt m 0
  have A : ∀ (i : grid0.Coords) (hb : ∀ a, (![(Scalar.indexCast (BitVec.ofNat 32 (i 1).val) : Index).toNat] : Fin 1 → Nat) a + S1.size a ≤ S297.size a) (h1 : S1.numel = 1),
      ((tbl m).at 0 (Rect.unit (s := S297) ![(Scalar.indexCast (BitVec.ofNat 32 (i 1).val) : Index).toNat] S1.size hb) h1).toNat < 32 := fun i hb h1 => by
    rw [at_word 0]; exact W i
  refine ⟨fun i => ⟨fun a => ?_, Or.inl rfl⟩, fun i => ⟨fun a => ?_, Or.inl rfl⟩, fun i => ⟨fun a => ?_, Or.inl rfl⟩, fun i => ⟨fun a => ?_, Or.inl rfl⟩, fun i => ⟨fun a => ?_, Or.inl rfl⟩⟩
  · fin_cases a
    · show ((Scalar.select _ (BitVec.ofNat 32 (i 1).val) (0#32 : BitVec 32)).toNat + 1) * 4096 ≤ 1212416
      have := sel_lt (Scalar.cmpi .slt (BitVec.ofNat 32 (i 1).val) ((tbl m).at 0 (Rect.unit (s := S297) ![296] S1.size inb_S297_S1_296) numel1_S1)) i
      omega
    · show (0 + 1) * 128 ≤ 128
      omega
  · fin_cases a
    · show (((tbl m).at 0 (Rect.unit (s := S297) ![(Scalar.indexCast (BitVec.ofNat 32 (i 1).val) : Index).toNat] S1.size _) _).toNat + 1) * 1 ≤ 32
      have := A i (k0_off1_inb i) numel1_S1
      omega
    · show (0 + 1) * 2048 ≤ 2048
      omega
    · show ((BitVec.ofNat 32 (i 0).val).toNat + 1) * 512 ≤ 2048
      have := col_lt i
      omega
  · fin_cases a
    · show (((tbl m).at 0 (Rect.unit (s := S297) ![(Scalar.indexCast (BitVec.ofNat 32 (i 1).val) : Index).toNat] S1.size _) _).toNat + 1) * 1 ≤ 32
      have := A i (k0_off1_inb i) numel1_S1
      omega
    · show (0 + 1) * 1 ≤ 1
      omega
    · show ((BitVec.ofNat 32 (i 0).val).toNat + 1) * 512 ≤ 2048
      have := col_lt i
      omega
  · fin_cases a
    · show (((tbl m).at 0 (Rect.unit (s := S297) ![(Scalar.indexCast (BitVec.ofNat 32 (i 1).val) : Index).toNat] S1.size _) _).toNat + 1) * 1 ≤ 32
      have := A i (k0_off1_inb i) numel1_S1
      omega
    · show (0 + 1) * 2048 ≤ 2048
      omega
    · show ((BitVec.ofNat 32 (i 0).val).toNat + 1) * 512 ≤ 2048
      have := col_lt i
      omega
  · fin_cases a
    · show (((tbl m).at 0 (Rect.unit (s := S297) ![(Scalar.indexCast (BitVec.ofNat 32 (i 1).val) : Index).toNat] S1.size _) _).toNat + 1) * 1 ≤ 32
      have := A i (k0_off1_inb i) numel1_S1
      omega
    · show (0 + 1) * 1 ≤ 1
      omega
    · show ((BitVec.ofNat 32 (i 0).val).toNat + 1) * 512 ≤ 2048
      have := col_lt i
      omega

end Cert.Kernel5Ideal.Up

end
-- ==== Proof.M.UpAt.lean ====
/- The experts' up-projection as the kernel computes it: its blocks, entry by entry. -/
module

public import proofs.«01_k».proof.Proof.M.UpFrame
public import proofs.«01_k».proof.Proof.M.NormSpec
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel5Ideal.Up

open Cert.Kernel5Ideal Cert.Kernel5Ideal.Gen

/-- The gated unit of the two projections. -/
def un (g u : EReal) : EReal :=
  (min g (Ideal.ofBits .f32 0x40E00000#32) * Ideal.logistic (Ideal.ofBits .f32 0x3FD9DB23#32 * min g (Ideal.ofBits .f32 0x40E00000#32)))
    * (min (Ideal.ofBits .f32 0x40E00000#32) (max (Ideal.ofBits .f32 0xC0E00000#32) u) + 1)

/-- Every eighth row of a block, entry by entry. -/
theorem pick_at (q : ℕ) (hq : q < 8) (h : ∀ a, S512x128.size a = 0 ∨ (![q, 0] : Fin 2 → Nat) a + (![8, 1] : Fin 2 → Nat) a * (S512x128.size a - 1) < S4096x128.size a)
    (x : Vec Ideal S4096x128 .i32) (r : Fin 512) (l : Fin 128) :
    pick (F := Ideal) ![q, 0] h x (ix2 r l) = x (ix2 ⟨r.val * 8 + q, by omega⟩ l) := by
  unfold pick
  refine congrArg x (funext fun a => Fin.ext ?_)
  fin_cases a
  · show q + 8 * r.val = r.val * 8 + q
    omega
  · show 0 + 1 * l.val = l.val
    omega

/-- Word k of a block's row r. -/
def wx (x : Vec Ideal S4096x128 .i32) (r : Fin 512) (k : Fin 1024) : BitVec 32 := x (ix2 ⟨r.val * 8 + k.val / 128, by omega⟩ ⟨k.val % 128, by omega⟩)

/-- Entry k of a block's row r. -/
def xe (x : Vec Ideal S4096x128 .i32) (r : Fin 512) (k : Fin 2048) : EReal :=
  if h : k.val < 1024 then Ideal.ofBits .f32 (IntOp.shli .vector (wx x r ⟨k.val, h⟩) 16#32)
  else Ideal.ofBits .f32 (IntOp.andi (wx x r ⟨k.val - 1024, by omega⟩) 4294901760#32)

/-- The rows the kernel unpacks, entry by entry. -/
theorem pay5_at (x : Vec Ideal S4096x128 .i32) (r : Fin 512) (k : Fin 2048) :
    k0_pay5 (F := Ideal) (pick (F := Ideal) ![0, 0] Gen.inb_S4096x128_S512x128_0_0_s_8_1 x) (pick (F := Ideal) ![1, 0] Gen.inb_S4096x128_S512x128_1_0_s_8_1 x) (pick (F := Ideal) ![2, 0] Gen.inb_S4096x128_S512x128_2_0_s_8_1 x) (pick (F := Ideal) ![3, 0] Gen.inb_S4096x128_S512x128_3_0_s_8_1 x) (pick (F := Ideal) ![4, 0] Gen.inb_S4096x128_S512x128_4_0_s_8_1 x) (pick (F := Ideal) ![5, 0] Gen.inb_S4096x128_S512x128_5_0_s_8_1 x) (pick (F := Ideal) ![6, 0] Gen.inb_S4096x128_S512x128_6_0_s_8_1 x) (pick (F := Ideal) ![7, 0] Gen.inb_S4096x128_S512x128_7_0_s_8_1 x) (ix2 r k) = xe x r k := by
  have hk2 := k.isLt
  unfold xe wx
  pointwise [k0_pay5]
  by_cases hk : k.val < 1024
  · rw [dif_pos hk, dif_pos hk]
    refine congrArg (fun q => Ideal.ofBits .f32 (IntOp.shli .vector q 16#32)) ?_
    simp only [pick_at 0 (by decide), pick_at 1 (by decide), pick_at 2 (by decide), pick_at 3 (by decide), pick_at 4 (by decide), pick_at 5 (by decide), pick_at 6 (by decide), pick_at 7 (by decide)]
    split_ifs <;> refine congrArg x (congrArg₂ ix2 (Fin.ext ?_) (Fin.ext ?_)) <;> simp only [] <;> omega
  · rw [dif_neg hk, dif_neg hk]
    refine congrArg (fun q => Ideal.ofBits .f32 (IntOp.andi q 4294901760#32)) ?_
    simp only [pick_at 0 (by decide), pick_at 1 (by decide), pick_at 2 (by decide), pick_at 3 (by decide), pick_at 4 (by decide), pick_at 5 (by decide), pick_at 6 (by decide), pick_at 7 (by decide)]
    split_ifs <;> refine congrArg x (congrArg₂ ix2 (Fin.ext ?_) (Fin.ext ?_)) <;> simp only [] <;> omega

/-- The gate's block, entry by entry. -/
theorem gate_at (x : Vec Ideal S4096x128 .i32) (w : Vec Ideal S2048x512 .bf16) (b : Vec Ideal S1x1x512 .f32) (r l : Fin 512) :
    gate (F := Ideal) x w b (ix2 r l) = min (∑ k, xe x r k * w (ix2 k l) + b (ix3 0 0 l)) (Ideal.ofBits .f32 0x40E00000#32) := by
  pointwise [gate, k0_pay6]
  simp only [pay5_at]

/-- The block the kernel stores, entry by entry. -/
theorem block_at (x : Vec Ideal S4096x128 .i32) (w : Vec Ideal S2048x512 .bf16) (b : Vec Ideal S1x1x512 .f32) (w' : Vec Ideal S2048x512 .bf16) (b' : Vec Ideal S1x1x512 .f32) (r l : Fin 512) :
    block (F := Ideal) x w b w' b' (ix2 r l) = un (∑ k, xe x r k * w (ix2 k l) + b (ix3 0 0 l)) (∑ k, xe x r k * w' (ix2 k l) + b' (ix3 0 0 l)) := by
  pointwise [block, k0_pay3, upb, k0_pay7, k0_pay8]
  simp only [pay5_at, gate_at]
  rfl

/-- The gate weights kept, entry by entry. -/
theorem pay1_at (w : Vec Ideal S1x2048x512 .f32) (k : Fin 2048) (l : Fin 512) : k0_pay1 (F := Ideal) w (ix2 k l) = w (ix3 0 k l) := by
  pointwise [k0_pay1]

/-- The up weights kept, entry by entry. -/
theorem pay2_at (w : Vec Ideal S1x2048x512 .f32) (k : Fin 2048) (l : Fin 512) : k0_pay2 (F := Ideal) w (ix2 k l) = w (ix3 0 k l) := by
  pointwise [k0_pay2]

/-- The block stored where a tile holds no rows is zero. -/
theorem pay4_at (r l : Fin 512) : k0_pay4 (F := Ideal) (ix2 r l) = 0 := by
  pointwise [k0_pay4]

end Cert.Kernel5Ideal.Up

end
-- ==== Proof.M.UpRefAt.lean ====
/- The experts' up-projection that the reference computes, entry by entry. -/
module

public import proofs.«01_k».proof.Proof.M.UpRef
public import Idealize.ShloMosaic.Lib.WordCmp

@[expose] public section

set_option maxRecDepth 16384

noncomputable section

open Idealize.ShloMosaic Idealize.ShloMosaic.TcCoe Idealize.SL.Sem

namespace Cert.Reference5Ideal.Up

open Cert.Reference5Ideal Cert.Reference5Ideal.Gen

variable (te : IVec S296 32) (n : IVec S_ 32) (xs : IVec S1212416x128 32)

/-- Word k of row r: the array holds eight rows of 128 words to a row. -/
def wd (r : Fin 151552) (k : Fin 1024) : BitVec 32 := xs (ix2 ⟨r.val * 8 + k.val / 128, by omega⟩ ⟨k.val % 128, by omega⟩)

/-- Entry k of row r. -/
def en (r : Fin 151552) (k : Fin 2048) : EReal :=
  if h : k.val < 1024 then Ideal.ofBits .f32 (IntOp.shli .vector (wd xs r ⟨k.val, h⟩) 16#32)
  else Ideal.ofBits .f32 (IntOp.andi (wd xs r ⟨k.val - 1024, by omega⟩) 4294901760#32)

/-- The expert of tile i. -/
def ex (i : Fin 296) : Fin 32 := ⟨min (te (ix1 i)).toInt.toNat 31, by omega⟩

/-- The tile of row r. -/
abbrev tl (r : Fin 151552) : Fin 296 := ⟨r.val / 512, by omega⟩

/-- One projection of row r by expert e, at column l. -/
def li (w : FVec Ideal S32x2048x2048 .f32) (b : FVec Ideal S32x2048 .f32) (r : Fin 151552) (e : Fin 32) (l : Fin 2048) : EReal :=
  ∑ k, en xs r k * w (ix3 e k l) + b (ix2 e l)

/-- The gated unit of the two projections. -/
def un (g u : EReal) : EReal :=
  (min g (Ideal.ofBits .f32 0x40E00000#32) * Ideal.logistic (Ideal.ofBits .f32 0x3FD9DB23#32 * min g (Ideal.ofBits .f32 0x40E00000#32)))
    * (min (Ideal.ofBits .f32 0x40E00000#32) (max (Ideal.ofBits .f32 0xC0E00000#32) u) + 1)

/-- Every tile's word names one of the experts. -/
def Names : Prop := ∀ i : Fin 296, 0 ≤ (te (ix1 i)).toInt ∧ (te (ix1 i)).toInt < 32

/-- The words, a row at a time. -/
theorem words_at (r : Fin 151552) (k : Fin 1024) : words xs (ix2 r k) = wd xs r k := by
  unfold wd
  pointwise [words]

/-- The tokens' rows, entry by entry. -/
theorem rows_at (i : Fin 296) (s : Fin 512) (k : Fin 2048) : rows (F := Ideal) xs (ix3 i s k) = en xs ⟨i.val * 512 + s.val, by omega⟩ k := by
  unfold en
  pointwise [rows]
  simp only [words_at, ValueIdx.shli_host]

/-- Where every word names an expert, none is counted from the end. -/
theorem experts_at (h : Names te) (i : Fin 296) : experts te (ix2 i 0) = te (ix1 i) := by
  pointwise [experts]
  rw [show IntOp.cmpi .slt (te (ix1 i)) 0#32 = 0#1 from ValueIdx.eq_zero_of_ne_one fun q => by
    rw [WordCmp.cmpi_slt_eq, WordCmp.ofBool_decide_eq_one_iff] at q
    have := (h i).1
    rw [show (0#32 : BitVec 32).toInt = 0 from rfl] at q
    omega]
  rfl

/-- A tile holds tokens when its number is below the count. -/
theorem inUse_at (i : Fin 296) : inUse n (ix3 i 0 0) = 1#1 ↔ (i.val : Int) < (n ix0).toInt := by
  pointwise [inUse]
  have hi : i.val < 296 := i.isLt
  rw [WordCmp.cmpi_slt_eq, WordCmp.ofBool_decide_eq_one_iff, WordCmp.toInt_ofNat_of_lt (by omega)]

/-- The tiles' weights, entry by entry. -/
theorem weights_at (h : Names te) (w : FVec Ideal S32x2048x2048 .f32) (i : Fin 296) (k l : Fin 2048) :
    weights te w (ix3 i k l) = w (ix3 (ex te i) k l) := by
  unfold weights Host.gather
  refine congrArg w ?_
  funext a
  refine Fin.ext ?_
  have e := experts_at te h i
  fin_cases a
  · change GatherDims.start gather_S32x2048x2048_S296x1_S296x2048x2048_12_0_n_n_0_1_120482048 (ix3 i k l) (experts te) 0 + GatherDims.batchCoord gather_S32x2048x2048_S296x1_S296x2048x2048_12_0_n_n_0_1_120482048 (ix3 i k l) 0 + GatherDims.offCoord gather_S32x2048x2048_S296x1_S296x2048x2048_12_0_n_n_0_1_120482048 (ix3 i k l) 0 = (ex te i).val
    rw [GatherDims.batchCoord_eq_zero _ _ _ List.not_mem_nil,
      GatherDims.offCoord_eq_zero _ _ _ (fun q => ((GatherDims.mem_sKept _ _).mp q).1 (List.mem_singleton.mpr rfl))]
    simp only [Nat.add_zero]
    unfold GatherDims.start
    rw [dif_pos (show _ ∈ GatherDims.startIndexMap gather_S32x2048x2048_S296x1_S296x2048x2048_12_0_n_n_0_1_120482048 from List.mem_singleton.mpr rfl)]
    have hs : GatherDims.siIdx gather_S32x2048x2048_S296x1_S296x2048x2048_12_0_n_n_0_1_120482048 (ix3 i k l) ⟨List.idxOf 0 (GatherDims.startIndexMap gather_S32x2048x2048_S296x1_S296x2048x2048_12_0_n_n_0_1_120482048), List.idxOf_lt_length_iff.2 (List.mem_singleton.mpr rfl)⟩ = ix2 i 0 := by
      funext q
      fin_cases q <;> rfl
    rw [hs, e]
    rfl
  · change 0 + 0 + k.val = _
    simp only [Nat.zero_add]; try rfl
  · change 0 + 0 + l.val = _
    simp only [Nat.zero_add]; try rfl

/-- The tiles' biases, entry by entry. -/
theorem biases_at (h : Names te) (b : FVec Ideal S32x2048 .f32) (i : Fin 296) (l : Fin 2048) :
    biases te b (ix2 i l) = b (ix2 (ex te i) l) := by
  unfold biases Host.gather
  refine congrArg b ?_
  funext a
  refine Fin.ext ?_
  have e := experts_at te h i
  fin_cases a
  · change GatherDims.start gather_S32x2048_S296x1_S296x2048_1_0_n_n_0_1_12048 (ix2 i l) (experts te) 0 + GatherDims.batchCoord gather_S32x2048_S296x1_S296x2048_1_0_n_n_0_1_12048 (ix2 i l) 0 + GatherDims.offCoord gather_S32x2048_S296x1_S296x2048_1_0_n_n_0_1_12048 (ix2 i l) 0 = (ex te i).val
    rw [GatherDims.batchCoord_eq_zero _ _ _ List.not_mem_nil,
      GatherDims.offCoord_eq_zero _ _ _ (fun q => ((GatherDims.mem_sKept _ _).mp q).1 (List.mem_singleton.mpr rfl))]
    simp only [Nat.add_zero]
    unfold GatherDims.start
    rw [dif_pos (show _ ∈ GatherDims.startIndexMap gather_S32x2048_S296x1_S296x2048_1_0_n_n_0_1_12048 from List.mem_singleton.mpr rfl)]
    have hs : GatherDims.siIdx gather_S32x2048_S296x1_S296x2048_1_0_n_n_0_1_12048 (ix2 i l) ⟨List.idxOf 0 (GatherDims.startIndexMap gather_S32x2048_S296x1_S296x2048_1_0_n_n_0_1_12048), List.idxOf_lt_length_iff.2 (List.mem_singleton.mpr rfl)⟩ = ix2 i 0 := by
      funext q
      fin_cases q <;> rfl
    rw [hs, e]
    rfl
  · change 0 + 0 + l.val = _
    simp only [Nat.zero_add]; try rfl

/-- The projection, entry by entry. -/
theorem lin_at (h : Names te) (w : FVec Ideal S32x2048x2048 .f32) (b : FVec Ideal S32x2048 .f32) (i : Fin 296) (s : Fin 512) (l : Fin 2048) :
    lin te xs w b (ix3 i s l) = li xs w b ⟨i.val * 512 + s.val, by omega⟩ (ex te i) l := by
  pointwise [lin]
  simp only [rows_at, weights_at te h, biases_at te h]
  rfl

/-- The reference's result, entry by entry. -/
theorem out_at (h : Names te) (wg : FVec Ideal S32x2048x2048 .f32) (bg : FVec Ideal S32x2048 .f32) (wu : FVec Ideal S32x2048x2048 .f32)
    (bu : FVec Ideal S32x2048 .f32) (r : Fin 151552) (l : Fin 2048) :
    out te n xs wg bg wu bu (ix2 r l)
      = if ((tl r).val : Int) < (n ix0).toInt then un (li xs wg bg r (ex te (tl r)) l) (li xs wu bu r (ex te (tl r)) l) else 0 := by
  pointwise [out, act, gt, up1]
  simp only [lin_at te xs h]
  have hr : (⟨r.val / 512 * 512 + r.val % 512, by omega⟩ : Fin 151552) = r := Fin.ext (by simp only []; omega)
  simp only [hr]
  have hz : (constant S_ .f32 0#32 : FVec Ideal S_ .f32) ix0 = 0 := by
    pointwise
  rw [show id (constant S_ .f32 0#32 : FVec Ideal S_ .f32) ix0 = 0 from hz]
  by_cases hu : ((tl r).val : Int) < (n ix0).toInt
  · rw [if_pos hu, show inUse n (ix3 ⟨r.val / 512, by omega⟩ 0 0) = 1#1 from (inUse_at n (tl r)).mpr hu, ValueIdx.select_one]
    rfl
  · rw [if_neg hu, show inUse n (ix3 ⟨r.val / 512, by omega⟩ 0 0) = 0#1 from ValueIdx.eq_zero_of_ne_one fun q => hu ((inUse_at n (tl r)).mp q), ValueIdx.select_zero]

end Cert.Reference5Ideal.Up

end
-- ==== Proof.M.UpFinal.lean ====
/- The experts' up-projection: the array the kernel leaves is the reference's result. -/
module

public import proofs.«01_k».proof.Proof.M.UpOk
public import proofs.«01_k».proof.Proof.M.UpAt
public import proofs.«01_k».proof.Proof.M.UpRefAt
public import Idealize.ShloMosaic.Lib.Pipeline.Covers

@[expose] public section

set_option maxRecDepth 16384

noncomputable section

open Idealize.ShloMosaic Idealize.ShloMosaic.TcCoe Idealize.SL.Sem
open Idealize.ShloMosaic.Pipeline (Dat)

namespace Cert.Kernel5Ideal.Up

open Cert.Kernel5Ideal Cert.Kernel5Ideal.Gen

attribute [local irreducible] tbl

section Index

variable {F : FTy → Type} [FloatOps F] (m : (ℓ : Loc nD τ sig) → Buf (Elt F) ℓ)

/-- A point's tile number, as a word. -/
theorem tile_word (i : grid0.Coords) : (BitVec.ofNat 32 (i 1).val).toNat = (i 1).val := by
  have hi : (i 1).val < 296 := (i 1).isLt
  rw [BitVec.toNat_ofNat]; omega

/-- A point's column block, as a word. -/
theorem col_word (i : grid0.Coords) : (BitVec.ofNat 32 (i 0).val).toNat = (i 0).val := by
  have hi : (i 0).val < 4 := (i 0).isLt
  rw [BitVec.toNat_ofNat]; omega

/-- The rows' block index at a point whose tile holds rows. -/
theorem index0 (hO : Ok m) (c : Dev nD) (t : Fin (cfgM m hO).N) (hu : usedAt m c t) : ((cfgM m hO).win 0).index t = ![(grid0.coords t 1).val, 0] := by
  have hw : (tbl m).at 0 (Rect.unit (s := S297) ![296] S1.size inb_S297_S1_296) numel1_S1 = word c (tbl m 0) 296 := by
    refine congrArg (tbl m 0) (funext fun a => Fin.ext ?_)
    obtain rfl : a = (0 : Fin 1) := Subsingleton.elim (α := Fin 1) _ _
    rfl
  have hb : Scalar.cmpi .slt (BitVec.ofNat 32 (grid0.coords t 1).val) ((tbl m).at 0 (Rect.unit (s := S297) ![296] S1.size inb_S297_S1_296) numel1_S1) = 1#1 := by
    rw [hw]
    have h := (used_iff _ _).mp hu
    have hi : (grid0.coords t 1).val < 296 := (grid0.coords t 1).isLt
    show IntOp.cmpi .slt (BitVec.ofNat 32 (grid0.coords t 1).val) _ = 1#1
    rw [WordCmp.cmpi_slt_eq, WordCmp.ofBool_decide_eq_one_iff, WordCmp.toInt_ofNat_of_lt (by omega)]
    exact h
  show ![(Scalar.select (Scalar.cmpi .slt (BitVec.ofNat 32 (grid0.coords t 1).val) ((tbl m).at 0 (Rect.unit (s := S297) ![296] S1.size inb_S297_S1_296) numel1_S1)) (BitVec.ofNat 32 (grid0.coords t 1).val) (0#32 : BitVec 32)).toNat, 0] = _
  rw [hb, ValueIdx.select_one, tile_word]

/-- The gate bias's block index at a point. -/
theorem index2 (hO : Ok m) (c : Dev nD) (t : Fin (cfgM m hO).N) :
    ((cfgM m hO).win 2).index t = ![(word c (tbl m 0) (tile (grid0.coords t))).toNat, 0, (BitVec.ofNat 32 (grid0.coords t 0).val).toNat] := by
  show ![_, _, _] = _
  exact congrArg (fun w : BitVec 32 => (![w.toNat, 0, (BitVec.ofNat 32 (grid0.coords t 0).val).toNat] : Fin 3 → Nat)) (at_word c (tbl m) (grid0.coords t) _ _)

/-- The up bias's block index at a point. -/
theorem index4 (hO : Ok m) (c : Dev nD) (t : Fin (cfgM m hO).N) :
    ((cfgM m hO).win 4).index t = ![(word c (tbl m 0) (tile (grid0.coords t))).toNat, 0, (BitVec.ofNat 32 (grid0.coords t 0).val).toNat] := by
  show ![_, _, _] = _
  exact congrArg (fun w : BitVec 32 => (![w.toNat, 0, (BitVec.ofNat 32 (grid0.coords t 0).val).toNat] : Fin 3 → Nat)) (at_word c (tbl m) (grid0.coords t) _ _)

/-- The output's block index at a point. -/
theorem index5 (a : (pcfg0 (F := F)).Adm) (t : Fin (cfg0 a).N) : ((cfg0 a).win 5).index t = ![(grid0.coords t 1).val, (grid0.coords t 0).val] := by
  show ![(BitVec.ofNat 32 (grid0.coords t 1).val).toNat, (BitVec.ofNat 32 (grid0.coords t 0).val).toNat] = _
  rw [tile_word, col_word]

/-- The output's blocks cover its array. -/
theorem covers5 (a : (pcfg0 (F := F)).Adm) : ((cfg0 a).win 5).Covers := by
  refine Pipeline.Window.covers_of_indexMap_surj _ rfl (fun b => ?_) fun β => ?_
  · fin_cases b
    · show 0 < 512
      omega
    · show 0 < 512
      omega
  · have h0 : (β (0 : Fin 2)).val < 296 := lt_of_lt_of_eq (β (0 : Fin 2)).isLt (show (151552 + 512 - 1) / 512 = 296 by omega)
    have h1 : (β (1 : Fin 2)).val < 4 := lt_of_lt_of_eq (β (1 : Fin 2)).isLt (show (2048 + 512 - 1) / 512 = 4 by omega)
    refine ⟨fun | 0 => ⟨(β (1 : Fin 2)).val, h1⟩ | 1 => ⟨(β (0 : Fin 2)).val, h0⟩, fun b => ?_⟩
    fin_cases b
    · show (BitVec.ofNat 32 (β (0 : Fin 2)).val).toNat = (β (0 : Fin 2)).val
      rw [BitVec.toNat_ofNat]; omega
    · show (BitVec.ofNat 32 (β (1 : Fin 2)).val).toNat = (β (1 : Fin 2)).val
      rw [BitVec.toNat_ofNat]; omega

end Index

variable (m : (ℓ : Loc nD τ sig) → Buf (Elt Ideal) ℓ) (c : Dev nD)

/-- How many rows each expert takes. -/
abbrev aN : IVec S32 32 := m ((c : Thread nD τ).loc main_arg0)
/-- The table: the tiles' experts, and how many tiles hold rows. -/
abbrev aT : IVec S297 32 := tab (aN m c)
/-- The rows, two entries to a word. -/
abbrev aX : IVec S1212416x128 32 := m ((c : Thread nD τ).loc main_arg1)
/-- The gate weights. -/
abbrev aG : FVec Ideal S32x2048x2048 .f32 := m ((c : Thread nD τ).loc main_arg2)
/-- The gate biases. -/
abbrev aGb : FVec Ideal S32x2048 .f32 := m ((c : Thread nD τ).loc main_arg3)
/-- The up weights. -/
abbrev aU : FVec Ideal S32x2048x2048 .f32 := m ((c : Thread nD τ).loc main_arg4)
/-- The up biases. -/
abbrev aUb : FVec Ideal S32x2048 .f32 := m ((c : Thread nD τ).loc main_arg5)

/-- The tile of a point. -/
abbrev tileOf (t : Fin grid0.N) : Fin 296 := ⟨(grid0.coords t 1).val, (grid0.coords t 1).isLt⟩
/-- The row of the array that row r of a point's block is. -/
abbrev row (t : Fin grid0.N) (r : Fin 512) : Fin 151552 := ⟨(tileOf t).val * 512 + r.val, by omega⟩
/-- The column of the arrays that column l of a point's block is. -/
abbrev col (t : Fin grid0.N) (l : Fin 512) : Fin 2048 :=
  ⟨(grid0.coords t 0).val * 512 + l.val, by have h : (grid0.coords t 0).val < 4 := (grid0.coords t 0).isLt; omega⟩
/-- The expert of a point. -/
def expt (t : Fin grid0.N) : Fin 32 := ⟨(word c (tbl m 0) (tile (grid0.coords t))).toNat, word_lt m c _⟩

variable (hO : Ok m)

/-- The rows' block at a point whose tile holds rows, entry by entry. -/
theorem x_at (t : Fin (cfgM m hO).N) (hu : usedAt m c t) (r : Fin 4096) (l : Fin 128) :
    iblk m hO c 0 t (ix2 r l) = aX m c (ix2 ⟨(tileOf t).val * 4096 + r.val, by omega⟩ l) := by
  unfold iblk
  show V m c main_arg1 _ = _
  rw [V_arg1]
  refine congrArg (aX m c) (funext fun a => Fin.ext ?_)
  refine (Pipeline.Window.rect_emb_val ((cfgM m hO).win 0) t _ a).trans ?_
  rw [index0 m hO c t hu]
  fin_cases a
  · rfl
  · show 0 * 128 + l.val = l.val
    omega

/-- The gate weights' block, entry by entry. -/
theorem g_at (t : Fin (cfgM m hO).N) (k : Fin 2048) (l : Fin 512) :
    iblk m hO c 1 t (ix3 0 k l) = aG m c (ix3 (expt m c t) k (col t l)) := by
  unfold iblk
  show V m c main_arg2 _ = _
  rw [V_arg2]
  refine congrArg (aG m c) (funext fun a => Fin.ext ?_)
  refine (Pipeline.Window.rect_emb_val ((cfgM m hO).win 1) t _ a).trans ?_
  rw [index1 m hO c t, col_word]
  fin_cases a
  · show (word c (tbl m 0) (tile (grid0.coords t))).toNat * 1 + 0 = (word c (tbl m 0) (tile (grid0.coords t))).toNat
    omega
  · show 0 * 2048 + k.val = k.val
    omega
  · rfl

/-- The up weights' block, entry by entry. -/
theorem u_at (t : Fin (cfgM m hO).N) (k : Fin 2048) (l : Fin 512) :
    iblk m hO c 3 t (ix3 0 k l) = aU m c (ix3 (expt m c t) k (col t l)) := by
  unfold iblk
  show V m c main_arg4 _ = _
  rw [V_arg4]
  refine congrArg (aU m c) (funext fun a => Fin.ext ?_)
  refine (Pipeline.Window.rect_emb_val ((cfgM m hO).win 3) t _ a).trans ?_
  rw [index3 m hO c t, col_word]
  fin_cases a
  · show (word c (tbl m 0) (tile (grid0.coords t))).toNat * 1 + 0 = (word c (tbl m 0) (tile (grid0.coords t))).toNat
    omega
  · show 0 * 2048 + k.val = k.val
    omega
  · rfl

/-- The gate biases as the region finds them. -/
theorem V_v18 (e : Fin 32) (l : Fin 2048) : (V m c main_v18 : FVec Ideal S32x1x2048 .f32) (ix3 e 0 l) = aGb m c (ix2 e l) := by
  simp only [V, hostOps0, hostOps0_1, hostOps0_2, hostOps0_3, List.flatten_cons, List.flatten_nil, List.cons_append, List.nil_append]
  entry_read
  pointwise

/-- The up biases as the region finds them. -/
theorem V_v19 (e : Fin 32) (l : Fin 2048) : (V m c main_v19 : FVec Ideal S32x1x2048 .f32) (ix3 e 0 l) = aUb m c (ix2 e l) := by
  simp only [V, hostOps0, hostOps0_1, hostOps0_2, hostOps0_3, List.flatten_cons, List.flatten_nil, List.cons_append, List.nil_append]
  entry_read
  pointwise

/-- The gate bias's block, entry by entry. -/
theorem gb_at (t : Fin (cfgM m hO).N) (l : Fin 512) :
    iblk m hO c 2 t (ix3 0 0 l) = aGb m c (ix2 (expt m c t) (col t l)) := by
  rw [← V_v18]
  unfold iblk
  show V m c main_v18 _ = _
  refine congrArg (V m c main_v18 : FVec Ideal S32x1x2048 .f32) (funext fun a => Fin.ext ?_)
  refine (Pipeline.Window.rect_emb_val ((cfgM m hO).win 2) t _ a).trans ?_
  rw [index2 m hO c t, col_word]
  fin_cases a
  · show (word c (tbl m 0) (tile (grid0.coords t))).toNat * 1 + 0 = (word c (tbl m 0) (tile (grid0.coords t))).toNat
    omega
  · rfl
  · rfl

/-- The up bias's block, entry by entry. -/
theorem ub_at (t : Fin (cfgM m hO).N) (l : Fin 512) :
    iblk m hO c 4 t (ix3 0 0 l) = aUb m c (ix2 (expt m c t) (col t l)) := by
  rw [← V_v19]
  unfold iblk
  show V m c main_v19 _ = _
  refine congrArg (V m c main_v19 : FVec Ideal S32x1x2048 .f32) (funext fun a => Fin.ext ?_)
  refine (Pipeline.Window.rect_emb_val ((cfgM m hO).win 4) t _ a).trans ?_
  rw [index4 m hO c t, col_word]
  fin_cases a
  · show (word c (tbl m 0) (tile (grid0.coords t))).toNat * 1 + 0 = (word c (tbl m 0) (tile (grid0.coords t))).toNat
    omega
  · rfl
  · rfl

/-! ## The value -/

open Cert.Reference5Ideal.Up (out out_at ex en li tl)

/-- The reference's result on the kernel's arguments. -/
abbrev ref : FVec Ideal S151552x2048 .bf16 := out (F := Ideal) (Cert.Reference5Ideal.Up.te0 (aN m c)) (Cert.Reference5Ideal.Up.total (aN m c)) (aX m c) (aG m c) (aGb m c) (aU m c) (aUb m c)

/-- A point's expert is the one the reference gathers for its tile. -/
theorem expt_eq (t : Fin grid0.N) : ex (Cert.Reference5Ideal.Up.te0 (aN m c)) (tileOf t) = expt m c t := by
  refine Fin.ext ?_
  show min (te (aN m c) (ix1 (tileOf t))).toInt.toNat 31 = (word c (tbl m 0) (tile (grid0.coords t))).toNat
  have hk : tile (grid0.coords t) = (⟨(tileOf t).val, by omega⟩ : Fin 297) := Fin.ext (tile_val _)
  rw [word_eq, hk, tab_at (aN m c) (tileOf t)]
  obtain ⟨h1, h2⟩ := toNat_of _ (te_names (aN m c) (tileOf t))
  rw [h1] at h2 ⊢
  omega

/-- The tile of a row of a point's block. -/
theorem tl_row (t : Fin grid0.N) (r : Fin 512) : tl (row t r) = tileOf t := by
  refine Fin.ext ?_
  show ((tileOf t).val * 512 + r.val) / 512 = (tileOf t).val
  omega

/-- Whether a tile holds rows, as the reference asks it. -/
theorem used_ref (t : Fin grid0.N) : usedAt m c t ↔ ((tileOf t).val : Int) < (Cert.Reference5Ideal.Up.total (aN m c) Idealize.ShloMosaic.ix0).toInt := by
  refine (used_iff _ _).trans ?_
  rw [word_eq, tab_last, total_ref]

/-- The block's rows, unpacked, are the reference's. -/
theorem rows_eq (t : Fin (cfgM m hO).N) (hu : usedAt m c t) (r : Fin 512) (k : Fin 2048) :
    xe (iblk m hO c 0 t) r k = en (aX m c) (row t r) k := by
  have hw : ∀ q : Fin 1024, wx (iblk m hO c 0 t) r q = Cert.Reference5Ideal.Up.wd (aX m c) (row t r) q := fun q => by
    unfold wx Cert.Reference5Ideal.Up.wd
    refine (x_at m c hO t hu _ _).trans (congrArg (aX m c) (congrArg (fun n => ix2 n _) (Fin.ext ?_)))
    show (tileOf t).val * 4096 + (r.val * 8 + q.val / 128) = ((tileOf t).val * 512 + r.val) * 8 + q.val / 128
    omega
  unfold xe en
  simp only [hw]

/-- What a point leaves in its block, entry by entry, is the reference's result. -/
theorem block_ref (t : Fin (cfgM m hO).N) (r l : Fin 512) : outAt m hO c t (ix2 r l) = ref m c (ix2 (row t r) (col t l)) := by
  refine Eq.trans ?_ (out_at (Cert.Reference5Ideal.Up.te0 (aN m c)) (Cert.Reference5Ideal.Up.total (aN m c)) (aX m c) (te_names (aN m c)) (aG m c) (aGb m c) (aU m c) (aUb m c) (row t r) (col t l)).symm
  rw [tl_row]
  unfold outAt stored
  by_cases hu : usedAt m c t
  · rw [if_pos hu, if_pos ((used_ref m c t).mp hu), expt_eq m c]
    refine (block_at _ _ _ _ _ r l).trans (congrArg₂ un ?_ ?_)
    · exact congrArg₂ (· + ·) (Finset.sum_congr rfl fun k _ => congrArg₂ (· * ·) (rows_eq m c hO t hu r k) ((pay1_at _ k l).trans (g_at m c hO t k l))) (gb_at m c hO t l)
    · exact congrArg₂ (· + ·) (Finset.sum_congr rfl fun k _ => congrArg₂ (· * ·) (rows_eq m c hO t hu r k) ((pay2_at _ k l).trans (u_at m c hO t k l))) (ub_at m c hO t l)
  · rw [if_neg hu, if_neg fun hr => hu ((used_ref m c t).mpr hr), pay4_at]

/-- The array the kernel leaves is the reference's result. -/
theorem final : (dats m hO 0 c).arrAt 5 (cfgM m hO).N = ref m c := by
  refine (dats m hO 0 c).arrAt_eq_of_covers 5 _ (covers5 _) fun t _ y => ?_
  rw [after5]
  obtain ⟨r, l, hy⟩ : ∃ r l : Fin 512, ((cfgM m hO).win 5).xinj ((cfgM m hO).grid.coords t) y = ix2 r l := ⟨y (0 : Fin 2), y (1 : Fin 2), by
    funext a
    fin_cases a <;> rfl⟩
  refine (congrArg (outAt m hO c t) hy).trans ((block_ref m c hO t r l).trans (congrArg (ref m c) (funext fun a => Fin.ext ?_)))
  refine Eq.trans ?_ (Pipeline.Window.rect_emb_val ((cfgM m hO).win 5) t y a).symm
  rw [index5]
  fin_cases a
  · show (tileOf t).val * 512 + r.val = (tileOf t).val * 512 + (y (0 : Fin 2)).val
    have := congrArg (fun i : S512x512.Idx => (i 0).val) hy
    exact congrArg _ this.symm
  · show (grid0.coords t 0).val * 512 + l.val = (grid0.coords t 0).val * 512 + (y (1 : Fin 2)).val
    have := congrArg (fun i : S512x512.Idx => (i 1).val) hy
    exact congrArg _ this.symm

end Cert.Kernel5Ideal.Up

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Skeleton
public import proofs.«01_k».proof.Proof.Gen.Reference4Ideal.Run
public import proofs.«01_k».proof.Proof.Gen.Kernel5
public import proofs.«01_k».proof.Proof.Gen.Kernel5Ideal.Launch
public import proofs.«01_k».proof.Proof.Gen.Kernel5Ideal.Skeleton
public import proofs.«01_k».proof.Proof.Gen.Reference5Ideal.Run
public import proofs.«01_k».proof.Proof.Gen.Kernel6.Frame
public import proofs.«01_k».proof.Proof.Gen.Kernel6Ideal.Frame
public import proofs.«01_k».proof.Proof.M.Final
public import proofs.«01_k».proof.Proof.M.Norm2
public import proofs.«01_k».proof.Proof.M.Norm3
public import proofs.«01_k».proof.Proof.M.Glu
public import proofs.«01_k».proof.Proof.M.UpFinal
public import Idealize.ShloMosaic.Adequacy
public import Idealize.ShloMosaic.Init

@[expose] public section

noncomputable section

namespace Cert.Proof

open Idealize.ShloMosaic

/-- The reference ends with its arguments unchanged; it declares no semaphore. -/
theorem frame_reference : Cert.quiescent_ReferenceIdeal := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

open Cert.KernelIdeal.Body Cert.ReferenceIdeal.Stage in
/-- The kernel's four results are the four stages of its arguments, and so are the reference's. -/
theorem algebraic : Cert.algebraic_KernelIdeal_ReferenceIdeal := fun m ρ m' ρ' _ hag =>
  ⟨fun c => hs (F := Ideal) (aX m c) (aG m c) (aC m c) (aN m c) (aM m c),
   fun c => c1 (F := Ideal) (aX m c) (aG m c) (aC m c) (aM m c),
   fun c => n1 (F := Ideal) (aX m c) (aG m c) (aN m c) (aM m c),
   fun c => m1 (F := Ideal) (aG m c) (aM m c),
   (θ_run Cert.KernelIdeal.defs _ _).mono
     (fun _ h c => by
       obtain ⟨h0, h1, h2, h3, ha⟩ := h c
       exact ⟨h0.trans (final_h m c), h1.trans (final_c m c), h2.trans (final_n m c), h3.trans (final_m m c), ha⟩)
     (Cert.KernelIdeal.Value.run_blocks (F := Ideal) m ρ),
   (θ_run Cert.ReferenceIdeal.defs _ _).mono
     (fun _ h c => by
       obtain ⟨h0, h1, h2, h3, ha⟩ := h c
       obtain ⟨g0, g1, g2, g3, g4⟩ := hag c
       rw [res_hs, g0, g1, g2, g3, g4] at h0
       rw [res_c1, g0, g1, g2, g4] at h1
       rw [res_n1, g0, g1, g3, g4] at h2
       rw [res_m1, g1, g4] at h3
       exact ⟨h0, h1, h2, h3, ha⟩)
     (Cert.ReferenceIdeal.Value.run (F := Ideal) m' ρ')⟩

/-- The reference of the projection that feeds the heads ends with its arguments unchanged; it declares no semaphore. -/
theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

open Cert.Kernel2Ideal.Body Cert.Reference2Ideal.Stage in
/-- Both programs of the projection that feeds the heads leave the same array. -/
theorem algebraic2 : Cert.algebraic_Kernel2Ideal_Reference2Ideal := fun m ρ m' ρ' _ hag =>
  ⟨fun c => out (F := Ideal) (aX m c) (aG m c) (aW m c) (aB m c),
   (θ_run Cert.Kernel2Ideal.defs _ _).mono (fun _ h c => ⟨(h c).1.trans (final m c), (h c).2⟩)
     (Cert.Kernel2Ideal.Value.run_blocks (F := Ideal) m ρ),
   (θ_run Cert.Reference2Ideal.defs _ _).mono
     (fun _ h c => by
       obtain ⟨h0, ha⟩ := h c
       obtain ⟨g0, g1, g2, g3⟩ := hag c
       refine ⟨h0.trans ?_, ha⟩
       rw [g0, g1, g2, g3]
       rfl)
     (Cert.Reference2Ideal.Value.run (F := Ideal) m' ρ')⟩

/-- The reference of the two gates of the mix ends with its arguments unchanged; it declares no semaphore. -/
theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

open Cert.Kernel3Ideal.Body Cert.Reference3Ideal.Stage in
/-- Both programs of the two gates of the mix leave the same array. -/
theorem algebraic3 : Cert.algebraic_Kernel3Ideal_Reference3Ideal := fun m ρ m' ρ' _ hag =>
  ⟨fun c => out (F := Ideal) (aX m c) (aG m c) (aW m c) (aB m c),
   (θ_run Cert.Kernel3Ideal.defs _ _).mono (fun _ h c => ⟨(h c).1.trans (final m c), (h c).2⟩)
     (Cert.Kernel3Ideal.Value.run_blocks (F := Ideal) m ρ),
   (θ_run Cert.Reference3Ideal.defs _ _).mono
     (fun _ h c => by
       obtain ⟨h0, ha⟩ := h c
       obtain ⟨g0, g1, g2, g3⟩ := hag c
       refine ⟨h0.trans ?_, ha⟩
       rw [g0, g1, g2, g3]
       rfl)
     (Cert.Reference3Ideal.Value.run (F := Ideal) m' ρ')⟩

/-- The two programs of the gated unit have the same body table. -/
theorem bodies4 {F : FTy → Type} [FloatOps F] : Cert.Kernel4.defs₀ (F := F) = Cert.Kernel4Ideal.defs₀ (F := F) := by
  unfold Cert.Kernel4.defs₀ Cert.Kernel4Ideal.defs₀
  refine congrArg Defs.onTc ?_
  funext l a
  match l, a with
  | 0, (t, s) => rfl

/-- The two programs of the gated unit have the same labels' table. -/
theorem tables4 {F : FTy → Type} [FloatOps F] : Cert.Kernel4.defs (F := F) = Cert.Kernel4Ideal.defs (F := F) :=
  congrArg (Pipeline.defs Cert.Kernel4Ideal.pcfgs) bodies4

/-- The kernel of the gated unit ends with its arguments unchanged and its semaphores at zero: the run is over any values. -/
theorem frame_kernel4 : Cert.quiescent_Kernel4 := fun m ρ _ => by
  rw [tables4]
  exact Cert.Kernel4Ideal.Glu.frame (F := Bits) m ρ

/-- The same of its text over the extended reals. -/
theorem frame_kernel4_ideal : Cert.quiescent_Kernel4Ideal := fun m ρ _ => Cert.Kernel4Ideal.Glu.frame (F := Ideal) m ρ

/-- The reference of the gated unit ends with its arguments unchanged; it declares no semaphore. -/
theorem frame_reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

open Cert.Kernel4Ideal.Body Cert.Reference4Ideal.Stage in
/-- Both programs of the gated unit leave the same unit and the same last rows of it. -/
theorem algebraic4 : Cert.algebraic_Kernel4Ideal_Reference4Ideal := fun m ρ m' ρ' _ hag =>
  ⟨fun c => out (F := Ideal) (aX m c) (aG m c) (aW m c) (aB m c),
   fun c => last (F := Ideal) (aX m c) (aG m c) (aW m c) (aB m c),
   (θ_run Cert.Kernel4Ideal.defs _ _).mono
     (fun _ h c => ⟨((h.1 c).1 10).trans (final m c),
       ((h.1 c).2 Cert.Kernel4Ideal.main_v21 (Pipeline.mem_restRefs_of Cert.Kernel4Ideal.main_v21 (by decide) (by decide))).trans (final_last m c),
       h.2.1 c⟩)
     (θ_run_and (Cert.Kernel4Ideal.Glu.run_main (F := Ideal) m ρ) (Cert.Kernel4Ideal.Glu.frame (F := Ideal) m ρ)),
   (θ_run Cert.Reference4Ideal.defs _ _).mono
     (fun _ h c => by
       obtain ⟨h0, h1, ha⟩ := h c
       obtain ⟨g0, g1, g2, g3⟩ := hag c
       refine ⟨h0.trans ?_, h1.trans ?_, ha⟩
       · rw [g0, g1, g2, g3]
         rfl
       · rw [g0, g1, g2, g3]
         rfl)
     (Cert.Reference4Ideal.Value.run (F := Ideal) m' ρ')⟩

/-- The two programs of the experts' up-projection have the same body table. -/
theorem bodies5 {F : FTy → Type} [FloatOps F] : Cert.Kernel5.defs₀ (F := F) = Cert.Kernel5Ideal.defs₀ (F := F) := by
  unfold Cert.Kernel5.defs₀ Cert.Kernel5Ideal.defs₀
  refine congrArg Defs.onTc ?_
  funext l a
  match l, a with
  | 0, (t, s) => rfl

/-- The two programs of the experts' up-projection have the same labels' table. -/
theorem tables5 {F : FTy → Type} [FloatOps F] : Cert.Kernel5.defs (F := F) = Cert.Kernel5Ideal.defs (F := F) :=
  congrArg (Pipeline.defs Cert.Kernel5Ideal.pcfgs) bodies5

/-- The two programs of the experts' up-projection have the same text. -/
theorem mains5 {F : FTy → Type} [FloatOps F] : Cert.Kernel5.main (F := F) = Cert.Kernel5Ideal.main (F := F) := by
  funext c
  chain_rfl

/-- The up-projection's kernel ends with its arguments unchanged and its semaphores at zero: the run is over any values. -/
theorem frame_kernel5 : Cert.quiescent_Kernel5 (hKernel5 := Cert.Kernel5.Gen.facts) := fun m ρ _ => by
  rw [tables5, mains5]
  exact Cert.Kernel5Ideal.Up.frame (F := Bits) m ρ (Cert.Kernel5Ideal.Up.ok (F := Bits) m)

/-- The same of its text over the extended reals. -/
theorem frame_kernel5_ideal : Cert.quiescent_Kernel5Ideal (hKernel5Ideal := Cert.Kernel5Ideal.Gen.facts) := fun m ρ _ =>
  Cert.Kernel5Ideal.Up.frame (F := Ideal) m ρ (Cert.Kernel5Ideal.Up.ok m)

/-- The up-projection's reference ends with its arguments unchanged; it declares no semaphore. -/
theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- Both programs of the experts' up-projection leave the same array. -/
theorem algebraic5 : Cert.algebraic_Kernel5Ideal_Reference5Ideal (hKernel5Ideal := Cert.Kernel5Ideal.Gen.facts) (hReference5Ideal := Cert.Reference5Ideal.Gen.facts) :=
  fun m ρ m' ρ' _ hag =>
  have hO := Cert.Kernel5Ideal.Up.ok m
  ⟨fun c => Cert.Kernel5Ideal.Up.ref m c,
   (θ_run Cert.Kernel5Ideal.defs _ _).mono
     (fun _ g c => ⟨((g.1 c).1 5).trans (Cert.Kernel5Ideal.Up.final m c hO), g.2.1 c⟩)
     (θ_run_and (Cert.Kernel5Ideal.Up.run_main (F := Ideal) m ρ hO) (Cert.Kernel5Ideal.Up.frame (F := Ideal) m ρ hO)),
   (θ_run Cert.Reference5Ideal.defs _ _).mono
     (fun _ g c => by
       obtain ⟨h0, ha⟩ := g c
       obtain ⟨g0, g1, g2, g3, g4, g5⟩ := hag c
       refine ⟨h0.trans ((Cert.Reference5Ideal.Up.res_eq m' c).trans ?_), ha⟩
       rw [g0, g1, g2, g3, g4, g5])
     (Cert.Reference5Ideal.Value.run (F := Ideal) m' ρ')⟩

/-- Every claim of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts,
    fun m ρ _ => Cert.Kernel.Gen.frame m ρ, fun m ρ _ => Cert.KernelIdeal.Gen.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    frame_kernel4, frame_kernel4_ideal, frame_reference4,
    frame_kernel5, frame_kernel5_ideal, frame_reference5,
    fun m ρ _ => Cert.Kernel6.Gen.frame m ρ, fun m ρ _ => Cert.Kernel6Ideal.Gen.frame m ρ,
    trivial, algebraic, trivial, algebraic2, trivial, algebraic3, trivial, algebraic4, trivial, algebraic5, trivial⟩

end Cert.Proof

end
